-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x512 : Shape := ⟨2, ![512, 512]⟩
abbrev S512x256 : Shape := ⟨2, ![512, 256]⟩
abbrev S4096x256 : Shape := ⟨2, ![4096, 256]⟩
abbrev S8x512x512 : Shape := ⟨3, ![8, 512, 512]⟩
abbrev S5x512x256 : Shape := ⟨3, ![5, 512, 256]⟩
abbrev S4x512x256 : Shape := ⟨3, ![4, 512, 256]⟩
abbrev S4x512x512 : Shape := ⟨3, ![4, 512, 512]⟩
abbrev S2x4 : Shape := ⟨2, ![2, 4]⟩
abbrev S2x3 : Shape := ⟨2, ![2, 3]⟩
abbrev S_ : Shape := ⟨0, ![]⟩
abbrev S256x256 : Shape := ⟨2, ![256, 256]⟩
abbrev S1x512x256 : Shape := ⟨3, ![1, 512, 256]⟩
abbrev S1x1 : Shape := ⟨2, ![1, 1]⟩
abbrev S1x256x256 : Shape := ⟨3, ![1, 256, 256]⟩
abbrev S1x512x512 : Shape := ⟨3, ![1, 512, 512]⟩
abbrev S256x512 : Shape := ⟨2, ![256, 512]⟩
abbrev S1x256x512 : Shape := ⟨3, ![1, 256, 512]⟩

abbrev nBuf : Space → Nat
  | .hbm => 4
  | .vmem => 12
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S512x256, .bf16⟩
  | .hbm, ⟨3, _⟩ => ⟨S4096x256, .f32⟩
  | .local _ .vmem, ⟨0, _⟩ => ⟨S4096x512, .bf16⟩
  | .local _ .vmem, ⟨1, _⟩ => ⟨S512x512, .bf16⟩
  | .local _ .vmem, ⟨2, _⟩ => ⟨S512x256, .bf16⟩
  | .local _ .vmem, ⟨3, _⟩ => ⟨S4096x256, .f32⟩
  | .local _ .vmem, ⟨4, _⟩ => ⟨S8x512x512, .bf16⟩
  | .local _ .vmem, ⟨5, _⟩ => ⟨S5x512x256, .bf16⟩
  | .local _ .vmem, ⟨6, _⟩ => ⟨S4x512x256, .bf16⟩
  | .local _ .vmem, ⟨7, _⟩ => ⟨S4x512x256, .bf16⟩
  | .local _ .vmem, ⟨8, _⟩ => ⟨S5x512x256, .bf16⟩
  | .local _ .vmem, ⟨9, _⟩ => ⟨S512x512, .bf16⟩
  | .local _ .vmem, ⟨10, _⟩ => ⟨S4x512x512, .bf16⟩
  | .local _ .vmem, ⟨11, _⟩ => ⟨S4x512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  (ofTc nBuf bufTy 1 92 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c4_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v21 : BitVec 32 := Scalar.addi v2 c4_i32
  let c8_i32_14 : BitVec 32 := 8#32
  let v22 : BitVec 32 := Scalar.remsi v21 c8_i32_14
  let c512_i32 : BitVec 32 := 512#32
  let v23 : BitVec 32 := Scalar.muli v22 c512_i32
  let v24 : Index := Scalar.indexCast v23
  let c0_15 : Index := 0#32
  ![v24.toNat, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_24 : BitVec 32 := 1#32
  let v32 : BitVec 32 := Scalar.muli v7 c1_i32_24
  let v33 : BitVec 32 := Scalar.addi c0_i32_25 v32
  v33.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_36 : BitVec 32 := 1#32
  let v42 : BitVec 32 := Scalar.muli v7 c1_i32_36
  let v43 : BitVec 32 := Scalar.addi c0_i32_37 v42
  v43.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_52 : BitVec 32 := 1#32
  let v63 : BitVec 32 := Scalar.muli v5 c1_i32_52
  let v64 : BitVec 32 := Scalar.addi c0_i32_53 v63
  v64.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_64 : BitVec 32 := 1#32
  let v73 : BitVec 32 := Scalar.muli v5 c1_i32_64
  let v74 : BitVec 32 := Scalar.addi c0_i32_65 v73
  v74.toNat
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_84 : BitVec 32 := 1#32
  let v94 : BitVec 32 := Scalar.muli v7 c1_i32_84
  let v95 : BitVec 32 := Scalar.addi c0_i32_85 v94
  v95.toNat
def k0_dev8 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_96 : BitVec 32 := 1#32
  let v104 : BitVec 32 := Scalar.muli v7 c1_i32_96
  let v105 : BitVec 32 := Scalar.addi c0_i32_97 v104
  v105.toNat
def k0_dev9 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_116 : BitVec 32 := 1#32
  let v125 : BitVec 32 := Scalar.muli v5 c1_i32_116
  let v126 : BitVec 32 := Scalar.addi c0_i32_117 v125
  v126.toNat
def k0_dev10 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_128 : BitVec 32 := 1#32
  let v135 : BitVec 32 := Scalar.muli v5 c1_i32_128
  let v136 : BitVec 32 := Scalar.addi c0_i32_129 v135
  v136.toNat
def k0_dev11 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_210 : BitVec 32 := 1#32
  let v240 : BitVec 32 := Scalar.muli v7 c1_i32_210
  let v241 : BitVec 32 := Scalar.addi c0_i32_211 v240
  v241.toNat
def k0_dev12 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_243 : BitVec 32 := 1#32
  let v268 : BitVec 32 := Scalar.muli v5 c1_i32_243
  let v269 : BitVec 32 := Scalar.addi c0_i32_244 v268
  v269.toNat
def k0_dev13 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_276 : BitVec 32 := 1#32
  let v296 : BitVec 32 := Scalar.muli v7 c1_i32_276
  let v297 : BitVec 32 := Scalar.addi c0_i32_277 v296
  v297.toNat
def k0_dev14 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_309 : BitVec 32 := 1#32
  let v324 : BitVec 32 := Scalar.muli v5 c1_i32_309
  let v325 : BitVec 32 := Scalar.addi c0_i32_310 v324
  v325.toNat
def k0_dev15 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_342 : BitVec 32 := 1#32
  let v352 : BitVec 32 := Scalar.muli v7 c1_i32_342
  let v353 : BitVec 32 := Scalar.addi c0_i32_343 v352
  v353.toNat
def k0_dev16 (d0 : Dev nD) : Nat :=
  let c0_i32_376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_375 : BitVec 32 := 1#32
  let v380 : BitVec 32 := Scalar.muli v5 c1_i32_375
  let v381 : BitVec 32 := Scalar.addi c0_i32_376 v380
  v381.toNat
def k0_dev17 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_408 : BitVec 32 := 1#32
  let v408 : BitVec 32 := Scalar.muli v7 c1_i32_408
  let v409 : BitVec 32 := Scalar.addi c0_i32_409 v408
  v409.toNat
def k0_dev18 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_441 : BitVec 32 := 1#32
  let v436 : BitVec 32 := Scalar.muli v5 c1_i32_441
  let v437 : BitVec 32 := Scalar.addi c0_i32_442 v436
  v437.toNat
def k0_dev19 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_474 : BitVec 32 := 1#32
  let v464 : BitVec 32 := Scalar.muli v7 c1_i32_474
  let v465 : BitVec 32 := Scalar.addi c0_i32_475 v464
  v465.toNat
def k0_dev20 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_507 : BitVec 32 := 1#32
  let v492 : BitVec 32 := Scalar.muli v5 c1_i32_507
  let v493 : BitVec 32 := Scalar.addi c0_i32_508 v492
  v493.toNat
def k0_dev21 (d0 : Dev nD) : Nat :=
  let c0_i32_541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_540 : BitVec 32 := 1#32
  let v520 : BitVec 32 := Scalar.muli v7 c1_i32_540
  let v521 : BitVec 32 := Scalar.addi c0_i32_541 v520
  v521.toNat
def k0_dev22 (d0 : Dev nD) : Nat :=
  let c0_i32_574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_573 : BitVec 32 := 1#32
  let v548 : BitVec 32 := Scalar.muli v5 c1_i32_573
  let v549 : BitVec 32 := Scalar.addi c0_i32_574 v548
  v549.toNat
def k0_dev23 (d0 : Dev nD) : Nat :=
  let c0_i32_607 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_606 : BitVec 32 := 1#32
  let v576 : BitVec 32 := Scalar.muli v7 c1_i32_606
  let v577 : BitVec 32 := Scalar.addi c0_i32_607 v576
  v577.toNat
def k0_dev24 (d0 : Dev nD) : Nat :=
  let c0_i32_640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_639 : BitVec 32 := 1#32
  let v604 : BitVec 32 := Scalar.muli v5 c1_i32_639
  let v605 : BitVec 32 := Scalar.addi c0_i32_640 v604
  v605.toNat
def k0_dev25 (d0 : Dev nD) : Nat :=
  let c0_i32_673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_672 : BitVec 32 := 1#32
  let v632 : BitVec 32 := Scalar.muli v7 c1_i32_672
  let v633 : BitVec 32 := Scalar.addi c0_i32_673 v632
  v633.toNat
def k0_dev26 (d0 : Dev nD) : Nat :=
  let c0_i32_706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_705 : BitVec 32 := 1#32
  let v660 : BitVec 32 := Scalar.muli v5 c1_i32_705
  let v661 : BitVec 32 := Scalar.addi c0_i32_706 v660
  v661.toNat
def k0_dev27 (d0 : Dev nD) : Nat :=
  let c0_i32_739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_738 : BitVec 32 := 1#32
  let v688 : BitVec 32 := Scalar.muli v7 c1_i32_738
  let v689 : BitVec 32 := Scalar.addi c0_i32_739 v688
  v689.toNat
def k0_dev28 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_771 : BitVec 32 := 1#32
  let v716 : BitVec 32 := Scalar.muli v5 c1_i32_771
  let v717 : BitVec 32 := Scalar.addi c0_i32_772 v716
  v717.toNat
def k0_dev29 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_804 : BitVec 32 := 1#32
  let v744 : BitVec 32 := Scalar.muli v7 c1_i32_804
  let v745 : BitVec 32 := Scalar.addi c0_i32_805 v744
  v745.toNat
def k0_dev30 (d0 : Dev nD) : Nat :=
  let c0_i32_838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_837 : BitVec 32 := 1#32
  let v772 : BitVec 32 := Scalar.muli v5 c1_i32_837
  let v773 : BitVec 32 := Scalar.addi c0_i32_838 v772
  v773.toNat
def k0_dev31 (d0 : Dev nD) : Nat :=
  let c0_i32_919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_918 : BitVec 32 := 1#32
  let v838 : BitVec 32 := Scalar.muli v7 c1_i32_918
  let v839 : BitVec 32 := Scalar.addi c0_i32_919 v838
  v839.toNat
def k0_dev32 (d0 : Dev nD) : Nat :=
  let c0_i32_930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_929 : BitVec 32 := 1#32
  let v847 : BitVec 32 := Scalar.muli v5 c1_i32_929
  let v848 : BitVec 32 := Scalar.addi c0_i32_930 v847
  v848.toNat
def k0_dev33 (d0 : Dev nD) : Nat :=
  let c0_i32_1011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1010 : BitVec 32 := 1#32
  let v912 : BitVec 32 := Scalar.muli v7 c1_i32_1010
  let v913 : BitVec 32 := Scalar.addi c0_i32_1011 v912
  v913.toNat
def k0_dev34 (d0 : Dev nD) : Nat :=
  let c0_i32_1022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1021 : BitVec 32 := 1#32
  let v921 : BitVec 32 := Scalar.muli v5 c1_i32_1021
  let v922 : BitVec 32 := Scalar.addi c0_i32_1022 v921
  v922.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1033 : BitVec 32 := 512#32
  let v935 : BitVec 32 := Scalar.muli v2 c512_i32_1033
  let v936 : Index := Scalar.indexCast v935
  let c0_1034 : Index := 0#32
  ![v936.toNat, 0]
def k0_dev35 (d0 : Dev nD) : Nat :=
  let c0_i32_1054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1053 : BitVec 32 := 1#32
  let v946 : BitVec 32 := Scalar.muli v7 c1_i32_1053
  let v947 : BitVec 32 := Scalar.addi c0_i32_1054 v946
  v947.toNat
def k0_dev36 (d0 : Dev nD) : Nat :=
  let c0_i32_1078 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1077 : BitVec 32 := 1#32
  let v964 : BitVec 32 := Scalar.muli v5 c1_i32_1077
  let v965 : BitVec 32 := Scalar.addi c0_i32_1078 v964
  v965.toNat
def k0_dev37 (d0 : Dev nD) : Nat :=
  let c0_i32_1102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1101 : BitVec 32 := 1#32
  let v982 : BitVec 32 := Scalar.muli v7 c1_i32_1101
  let v983 : BitVec 32 := Scalar.addi c0_i32_1102 v982
  v983.toNat
def k0_dev38 (d0 : Dev nD) : Nat :=
  let c0_i32_1126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1125 : BitVec 32 := 1#32
  let v1000 : BitVec 32 := Scalar.muli v5 c1_i32_1125
  let v1001 : BitVec 32 := Scalar.addi c0_i32_1126 v1000
  v1001.toNat
def k0_off3 (d0 : Dev nD) (c0_i32_1132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1131 : BitVec 32 := 1#32
  let v1010 : BitVec 32 := Scalar.subi v2 c1_i32_1131
  let v1011 : BitVec 32 := Scalar.subi v1010 c0_i32_1132
  let c8_i32_1133 : BitVec 32 := 8#32
  let v1012 : BitVec 32 := Scalar.addi v1011 c8_i32_1133
  let c8_i32_1134 : BitVec 32 := 8#32
  let v1013 : BitVec 32 := Scalar.remsi v1012 c8_i32_1134
  let c512_i32_1146 : BitVec 32 := 512#32
  let v1024 : BitVec 32 := Scalar.muli v1013 c512_i32_1146
  let v1025 : Index := Scalar.indexCast v1024
  let c0_1147 : Index := 0#32
  ![v1025.toNat, 0]
def k0_off4 (d0 : Dev nD) (c0_i32_1136 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1135 : BitVec 32 := 1#32
  let v1014 : BitVec 32 := Scalar.addi v2 c1_i32_1135
  let v1015 : BitVec 32 := Scalar.addi v1014 c0_i32_1136
  let c8_i32_1137 : BitVec 32 := 8#32
  let v1016 : BitVec 32 := Scalar.remsi v1015 c8_i32_1137
  let c512_i32_1156 : BitVec 32 := 512#32
  let v1034 : BitVec 32 := Scalar.muli v1016 c512_i32_1156
  let v1035 : Index := Scalar.indexCast v1034
  let c0_1157 : Index := 0#32
  ![v1035.toNat, 0]
def k0_dev39 (d0 : Dev nD) : Nat :=
  let c0_i32_1177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1176 : BitVec 32 := 1#32
  let v1045 : BitVec 32 := Scalar.muli v7 c1_i32_1176
  let v1046 : BitVec 32 := Scalar.addi c0_i32_1177 v1045
  v1046.toNat
def k0_dev40 (d0 : Dev nD) : Nat :=
  let c0_i32_1201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1200 : BitVec 32 := 1#32
  let v1063 : BitVec 32 := Scalar.muli v5 c1_i32_1200
  let v1064 : BitVec 32 := Scalar.addi c0_i32_1201 v1063
  v1064.toNat
def k0_dev41 (d0 : Dev nD) : Nat :=
  let c0_i32_1225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1224 : BitVec 32 := 1#32
  let v1081 : BitVec 32 := Scalar.muli v7 c1_i32_1224
  let v1082 : BitVec 32 := Scalar.addi c0_i32_1225 v1081
  v1082.toNat
def k0_dev42 (d0 : Dev nD) : Nat :=
  let c0_i32_1249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1248 : BitVec 32 := 1#32
  let v1099 : BitVec 32 := Scalar.muli v5 c1_i32_1248
  let v1100 : BitVec 32 := Scalar.addi c0_i32_1249 v1099
  v1100.toNat
def k0_dev43 (d0 : Dev nD) : Nat :=
  let c0_i32_1300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1299 : BitVec 32 := 1#32
  let v1144 : BitVec 32 := Scalar.muli v7 c1_i32_1299
  let v1145 : BitVec 32 := Scalar.addi c0_i32_1300 v1144
  v1145.toNat
def k0_dev44 (d0 : Dev nD) : Nat :=
  let c0_i32_1324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1323 : BitVec 32 := 1#32
  let v1162 : BitVec 32 := Scalar.muli v5 c1_i32_1323
  let v1163 : BitVec 32 := Scalar.addi c0_i32_1324 v1162
  v1163.toNat
def k0_dev45 (d0 : Dev nD) : Nat :=
  let c0_i32_1348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1347 : BitVec 32 := 1#32
  let v1180 : BitVec 32 := Scalar.muli v7 c1_i32_1347
  let v1181 : BitVec 32 := Scalar.addi c0_i32_1348 v1180
  v1181.toNat
def k0_dev46 (d0 : Dev nD) : Nat :=
  let c0_i32_1372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1371 : BitVec 32 := 1#32
  let v1198 : BitVec 32 := Scalar.muli v5 c1_i32_1371
  let v1199 : BitVec 32 := Scalar.addi c0_i32_1372 v1198
  v1199.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1452 : BitVec 32 := 4#32
  let v1267 : BitVec 32 := Scalar.addi v2 c4_i32_1452
  let c8_i32_1453 : BitVec 32 := 8#32
  let v1268 : BitVec 32 := Scalar.remsi v1267 c8_i32_1453
  let c512_i32_1462 : BitVec 32 := 512#32
  let v1276 : BitVec 32 := Scalar.muli v1268 c512_i32_1462
  let v1277 : Index := Scalar.indexCast v1276
  let c0_1463 : Index := 0#32
  ![v1277.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x512, .bf16⟩
  | .hbm, ⟨2, _⟩ => ⟨S512x2048, .bf16⟩
  | .hbm, ⟨3, _⟩ => ⟨S4096x512, .f32⟩
  | .hbm, ⟨4, _⟩ => ⟨S4096x512, .bf16⟩
  | .hbm, ⟨5, _⟩ => ⟨S4096x2048, .f32⟩
  | .hbm, ⟨6, _⟩ => ⟨S4096x2048, .bf16⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Ring.lean ====
/-
  The kernel's protocol as data: the devices' ring, the pieces of the scratch buffers the
  remote copies read and write, the 44 remote copies with their semaphores, and the kernel body
  as a list of the operations it performs, in order.
-/
module

public import Idealize.ShloMosaic.Lib.Pipeline.Launch
public import Idealize.ShloMosaic.Lib.Pipeline.Kit
public import Idealize.ShloMosaic.Lib.Tactic
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Ring

open Cert.KernelIdeal Cert.KernelIdeal.Gen
open Idealize.ShloMosaic Idealize.ShloMosaic.TcCoe Idealize.SL Idealize.SL.Sem

variable {F : FTy → Type} [FloatOps F]

/-! ## The ring -/

/-- The right neighbour, as the program computes it. -/
abbrev devR (c : Dev nD) : Dev nD := ⟨k0_dev3 c, k0_dev3_lt c⟩
/-- The left neighbour, as the program computes it. -/
abbrev devL (c : Dev nD) : Dev nD := ⟨k0_dev5 c, k0_dev5_lt c⟩

/-! ## Buffers -/

/-- The four partial-sum streams: columns `a` (first half) or `b` (second half), travelling right
    (`ra`, `rb`) or left (`la`, `lb`). -/
inductive Fam | ra | la | rb | lb
  deriving DecidableEq

/-- The streams that travel right. -/
def Fam.right : Fam → Bool | .ra => true | .la => false | .rb => true | .lb => false

/-- The number of slots of a stream's buffer. -/
abbrev Fam.n : Fam → Nat | .ra => 5 | .la => 4 | .rb => 4 | .lb => 5

/-- The last slot, which the stream's first partial sum is put in. -/
abbrev Fam.seed : Fam → Nat | .ra => 4 | .la => 3 | .rb => 3 | .lb => 4

/-- The column half a stream sums. -/
abbrev Fam.half : Fam → Fin 2 | .ra => 0 | .la => 0 | .rb => 1 | .lb => 1

/-- The chunk a stream starts from, counted from the device's own. -/
abbrev Fam.start : Fam → Fin 8 | .ra => 4 | .la => 5 | .rb => 3 | .lb => 4

/-- The chunk a stream adds after its `s`-th arrival. -/
def Fam.off : Fam → Fin 3 → Fin 8
  | .ra, s => ![3, 2, 1] s
  | .la, s => ![6, 7, 0] s
  | .rb, s => ![2, 1, 0] s
  | .lb, s => ![5, 6, 7] s

/-- The shape of a stream's buffer. -/
abbrev RS (n : Nat) : Shape := ⟨3, ![n, 512, 256]⟩

/-- A stream's buffer. -/
def buf : (f : Fam) → Memref sig .tc .vmem (RS f.n) .bf16
  | .ra => (Memref.whole cc0_scratch1 : Memref sig .tc .vmem S5x512x256 .bf16)
  | .la => (Memref.whole cc0_scratch2 : Memref sig .tc .vmem S4x512x256 .bf16)
  | .rb => (Memref.whole cc0_scratch3 : Memref sig .tc .vmem S4x512x256 .bf16)
  | .lb => (Memref.whole cc0_scratch4 : Memref sig .tc .vmem S5x512x256 .bf16)

theorem buf_whole (f : Fam) : (buf f).IsWhole := by cases f <;> exact Memref.isWhole_whole _

/-- The gathered rows' buffer of a direction (`true`: travelling right). -/
def gbuf : Bool → Memref sig .tc .vmem S4x512x512 .bf16
  | true => (Memref.whole cc0_scratch6 : Memref sig .tc .vmem S4x512x512 .bf16)
  | false => (Memref.whole cc0_scratch7 : Memref sig .tc .vmem S4x512x512 .bf16)

theorem gbuf_whole (b : Bool) : (gbuf b).IsWhole := by cases b <;> exact Memref.isWhole_whole _

/-- The buffer of partial products. -/
abbrev pbuf : Memref sig .tc .vmem S8x512x512 .bf16 := Memref.whole cc0_scratch0
/-- The buffer of the device's own summed rows. -/
abbrev obuf : Memref sig .tc .vmem S512x512 .bf16 := Memref.whole cc0_scratch5

theorem slot_inb (n : Nat) (s : Nat) (hs : s < n) :
    ∀ a, (![s, 0, 0] : Fin 3 → Nat) a + S1x512x256.size a ≤ (RS n).size a := by
  intro a; fin_cases a <;> simp <;> omega
theorem pc_inb (n : Nat) (s : Nat) (p : Fin 2) (hs : s < n) :
    ∀ a, (![s, 256 * p.val, 0] : Fin 3 → Nat) a + S1x256x256.size a ≤ (RS n).size a := by
  intro a; fin_cases a <;> simp <;> omega

/-- The rectangle of a slot of a stream's buffer. -/
abbrev slotRect (f : Fam) (s : Nat) (hs : s < f.n) : Rect (RS f.n) :=
  Rect.unit (s := RS f.n) ![s, 0, 0] S1x512x256.size (slot_inb f.n s hs)
/-- The rectangle of half the rows of a slot. -/
abbrev pcRect (f : Fam) (s : Nat) (p : Fin 2) (hs : s < f.n) : Rect (RS f.n) :=
  Rect.unit (s := RS f.n) ![s, 256 * p.val, 0] S1x256x256.size (pc_inb f.n s p hs)

theorem slot_packed (f : Fam) : (slotRect f f.seed (by cases f <;> decide)).PackedRows (EltTy.packing .bf16) := by
  cases f
  · exact packedbf16_S5x512x256_S1x512x256_4_0_0
  · exact packedbf16_S4x512x256_S1x512x256_3_0_0
  · exact packedbf16_S4x512x256_S1x512x256_3_0_0
  · exact packedbf16_S5x512x256_S1x512x256_4_0_0

theorem pc_words (f : Fam) (s : Nat) (p : Fin 2) (hs : s < f.n) :
    (pcRect f s p hs).WholeWords (EltTy.packing .bf16) := by
  cases f <;> (revert p; revert s; decide)
theorem pc_packed (f : Fam) (s : Nat) (p : Fin 2) (hs : s < f.n) :
    (pcRect f s p hs).PackedRows (EltTy.packing .bf16) := by
  cases f <;> (revert p; revert s; decide)

/-- Half the rows of a slot, as the copies see them. -/
abbrev pc (f : Fam) (s : Nat) (p : Fin 2) (hs : s < f.n) : Memref sig .tc .vmem S256x256 .bf16 :=
  ((buf f).slice (pcRect f s p hs) (fun _ => rfl)).squeeze S256x256 squeezes_S1x256x256_S256x256

theorem pc_wordExact (f : Fam) (s : Nat) (p : Fin 2) (hs : s < f.n) : (pc f s p hs).view.WordExact :=
  ((buf_whole f).wordExact_slice rfl _ (pc_words f s p hs)).reshape _ _

theorem ob_inb (p : Fin 2) : ∀ a, (![256 * p.val, 0] : Fin 2 → Nat) a + S256x512.size a ≤ S512x512.size a := by
  revert p; decide
theorem ob_words (p : Fin 2) :
    (Rect.unit (s := S512x512) ![256 * p.val, 0] S256x512.size (ob_inb p)).WholeWords (EltTy.packing .bf16) := by
  revert p; decide
/-- Half the device's own rows. -/
abbrev obRect (p : Fin 2) : Rect S512x512 :=
  Rect.unit (s := S512x512) ![256 * p.val, 0] S256x512.size (ob_inb p)
abbrev ob (p : Fin 2) : Memref sig .tc .vmem S256x512 .bf16 := obuf.slice (obRect p) (fun _ => rfl)

theorem gb_inb (s : Fin 3) (p : Fin 2) :
    ∀ a, (![s.val, 256 * p.val, 0] : Fin 3 → Nat) a + S1x256x512.size a ≤ S4x512x512.size a := by
  revert s p; decide
/-- Half the rows of a gather slot, full width. -/
abbrev gbRect (s : Fin 3) (p : Fin 2) : Rect S4x512x512 :=
  Rect.unit (s := S4x512x512) ![s.val, 256 * p.val, 0] S1x256x512.size (gb_inb s p)
theorem gb_words (s : Fin 3) (p : Fin 2) : (gbRect s p).WholeWords (EltTy.packing .bf16) := by
  revert s p; decide
abbrev gb (b : Bool) (s : Fin 3) (p : Fin 2) : Memref sig .tc .vmem S256x512 .bf16 :=
  ((gbuf b).slice (gbRect s p) (fun _ => rfl)).squeeze S256x512 squeezes_S1x256x512_S256x512

theorem gh_inb (s : Fin 4) (p h : Fin 2) :
    ∀ a, (![s.val, 256 * p.val, 256 * h.val] : Fin 3 → Nat) a + S1x256x256.size a ≤ S4x512x512.size a := by
  revert s p h; decide
/-- Half the rows and half the columns of a gather slot. -/
abbrev ghRect (s : Fin 4) (p h : Fin 2) : Rect S4x512x512 :=
  Rect.unit (s := S4x512x512) ![s.val, 256 * p.val, 256 * h.val] S1x256x256.size (gh_inb s p h)
theorem gh_words (s : Fin 4) (p h : Fin 2) : (ghRect s p h).WholeWords (EltTy.packing .bf16) := by
  revert s p h; decide
abbrev gh (b : Bool) (s : Fin 4) (p h : Fin 2) : Memref sig .tc .vmem S256x256 .bf16 :=
  ((gbuf b).slice (ghRect s p h) (fun _ => rfl)).squeeze S256x256 squeezes_S1x256x256_S256x256

/-! ## The remote copies -/

/-- The remote copies a device fires. -/
inductive Cp
  /-- Half `p` of stream `f`, into the neighbour's slot `s`. -/
  | rs (f : Fam) (p : Fin 2) (s : Fin 3)
  /-- The fourth copy of the streams `ra` (`true`) and `lb` (`false`), into slot 3. -/
  | rl (b : Bool) (p : Fin 2)
  /-- The device's own rows, into gather slot 0. -/
  | own (b : Bool) (p : Fin 2)
  /-- Gather slot `s` into slot `s+1`. -/
  | ag (b : Bool) (p : Fin 2) (s : Fin 2)
  /-- The half columns of gather slot 2 into slot 3. -/
  | last (b : Bool) (p : Fin 2)
  deriving DecidableEq

/-- The stream of a fourth copy. -/
abbrev lfam : Bool → Fam | true => .ra | false => .lb

/-- Which copies go right. -/
def Cp.right : Cp → Bool
  | .rs f _ _ => f.right
  | .rl b _ => b
  | .own b _ => b
  | .ag b _ _ => b
  | .last b _ => b

/-- The column half a direction's last copy carries. -/
abbrev lhalf : Bool → Fin 2 | true => 0 | false => 1

/-- The shape a copy moves. -/
abbrev Cp.sh : Cp → Shape
  | .rs _ _ _ => S256x256
  | .rl _ _ => S256x256
  | .own _ _ => S256x512
  | .ag _ _ _ => S256x512
  | .last _ _ => S256x256

/-- The slot a stream's `s`-th copy reads. -/
abbrev srcSlot (f : Fam) (s : Fin 3) : Nat := if s.val = 0 then f.seed else s.val - 1
theorem srcSlot_lt (f : Fam) (s : Fin 3) : srcSlot f s < f.n := by revert s; cases f <;> decide
theorem dstSlot_lt (f : Fam) (s : Fin 3) : s.val < f.n := by revert s; cases f <;> decide
theorem l2_lt (b : Bool) : 2 < (lfam b).n := by cases b <;> decide
theorem l3_lt (b : Bool) : 3 < (lfam b).n := by cases b <;> decide

/-- What a copy reads. -/
def src : (k : Cp) → Memref sig .tc .vmem k.sh .bf16
  | .rs f p s => pc f (srcSlot f s) p (srcSlot_lt f s)
  | .rl b p => pc (lfam b) 2 p (l2_lt b)
  | .own b p => ob p
  | .ag b p s => gb b s.castSucc p
  | .last b p => gh b 2 p (lhalf b)

/-- What a copy writes, on the neighbour. -/
def dst : (k : Cp) → Memref sig .tc .vmem k.sh .bf16
  | .rs f p s => pc f s.val p (dstSlot_lt f s)
  | .rl b p => pc (lfam b) 3 p (l3_lt b)
  | .own b p => gb b 0 p
  | .ag b p s => gb b s.succ p
  | .last b p => gh b 3 p (lhalf b)

theorem src_exact (k : Cp) : (src k).view.WordExact := by
  cases k
  · exact pc_wordExact _ _ _ _
  · exact pc_wordExact _ _ _ _
  · exact (Memref.isWhole_whole _).wordExact_slice rfl _ (ob_words _)
  · exact ((gbuf_whole _).wordExact_slice rfl _ (gb_words _ _)).reshape _ _
  · exact ((gbuf_whole _).wordExact_slice rfl _ (gh_words _ _ _)).reshape _ _

theorem dst_exact (k : Cp) : (dst k).view.WordExact := by
  cases k
  · exact pc_wordExact _ _ _ _
  · exact pc_wordExact _ _ _ _
  · exact ((gbuf_whole _).wordExact_slice rfl _ (gb_words _ _)).reshape _ _
  · exact ((gbuf_whole _).wordExact_slice rfl _ (gb_words _ _)).reshape _ _
  · exact ((gbuf_whole _).wordExact_slice rfl _ (gh_words _ _ _)).reshape _ _

theorem dst_notSc (k : Cp) : (dst k).view.ref.isScScratch = false := by
  rcases k with ⟨f, p, s⟩ | ⟨b, p⟩ | ⟨b, p⟩ | ⟨b, p, s⟩ | ⟨b, p⟩
  · cases f <;> rfl
  all_goals cases b <;> rfl

theorem sem4_inb (p : Fin 2) (s : Fin 4) :
    ∀ a, (![p.val, s.val] : Fin 2 → Nat) a + S1x1.size a ≤ S2x4.size a := by revert p s; decide
theorem sem3_inb (p : Fin 2) (s : Fin 3) :
    ∀ a, (![p.val, s.val] : Fin 2 → Nat) a + S1x1.size a ≤ S2x3.size a := by revert p s; decide

/-- One semaphore of a two by four array. -/
abbrev sem4 (S : DmaSems sig S2x4) (p : Fin 2) (s : Fin 4) : DmaSem sig :=
  ((S.slice (Rect.unit (s := S2x4) ![p.val, s.val] S1x1.size (sem4_inb p s))).squeeze S_ squeezes_S1x1_S_).sem
/-- One semaphore of a two by three array. -/
abbrev sem3 (S : DmaSems sig S2x3) (p : Fin 2) (s : Fin 3) : DmaSem sig :=
  ((S.slice (Rect.unit (s := S2x3) ![p.val, s.val] S1x1.size (sem3_inb p s))).squeeze S_ squeezes_S1x1_S_).sem

/-- The semaphore a copy raises on the sender. -/
def ssem : Cp → DmaSem sig
  | .rs .ra p s => sem4 cc0_scratch8 p s.castSucc
  | .rs .la p s => sem3 cc0_scratch10 p s
  | .rs .rb p s => sem3 cc0_scratch12 p s
  | .rs .lb p s => sem4 cc0_scratch14 p s.castSucc
  | .rl true p => sem4 cc0_scratch8 p 3
  | .rl false p => sem4 cc0_scratch14 p 3
  | .own true p => sem4 cc0_scratch16 p 0
  | .own false p => sem4 cc0_scratch18 p 0
  | .ag true p s => sem4 cc0_scratch16 p s.succ.castSucc
  | .ag false p s => sem4 cc0_scratch18 p s.succ.castSucc
  | .last true p => sem4 cc0_scratch16 p 3
  | .last false p => sem4 cc0_scratch18 p 3

/-- The semaphore a copy raises on the receiver. -/
def rsem : Cp → DmaSem sig
  | .rs .ra p s => sem4 cc0_scratch9 p s.castSucc
  | .rs .la p s => sem3 cc0_scratch11 p s
  | .rs .rb p s => sem3 cc0_scratch13 p s
  | .rs .lb p s => sem4 cc0_scratch15 p s.castSucc
  | .rl true p => sem4 cc0_scratch9 p 3
  | .rl false p => sem4 cc0_scratch15 p 3
  | .own true p => sem4 cc0_scratch17 p 0
  | .own false p => sem4 cc0_scratch19 p 0
  | .ag true p s => sem4 cc0_scratch17 p s.succ.castSucc
  | .ag false p s => sem4 cc0_scratch19 p s.succ.castSucc
  | .last true p => sem4 cc0_scratch17 p 3
  | .last false p => sem4 cc0_scratch19 p 3

/-- The device a copy goes to. -/
def tgt (k : Cp) (c : Dev nD) : Dev nD := bif k.right then devR c else devL c

/-! ## The operations -/

/-- The kernel's program. -/
abbrev Pg (F : FTy → Type) := Prog (TpuEff nD τ sig (Elt F) Λ₀ .tc) PUnit

/-- The kernel's macro operations. -/
inductive Op
  /-- Fire copy `k`. -/
  | send (k : Cp)
  /-- Wait for the arrival of the neighbour's copy `k`. -/
  | wR (k : Cp)
  /-- Wait for the departure of copy `k`. -/
  | wS (k : Cp)
  /-- A stream's first partial sum. -/
  | seed (f : Fam)
  /-- The `i`-th partial product. -/
  | part (i : Fin 7)
  /-- Add the device's partial product to what arrived in slot `s`. -/
  | add (f : Fam) (p : Fin 2) (s : Fin 2)
  /-- The third addition of the streams that have one. -/
  | add3 (b : Bool) (p : Fin 2)
  /-- Sum a quarter of the device's own rows. -/
  | own (p h : Fin 2)
  /-- The output rows of the own chunk. -/
  | out
  /-- The output rows of gather slot `s` of a direction. -/
  | outG (b : Bool) (s : Fin 3)
  /-- The output rows of the opposite chunk. -/
  | outF
  deriving DecidableEq

/-- The order of the partial products. -/
abbrev pord (i : Fin 7) : Fin 8 := (![3, 6, 2, 5, 1, 7, 0] : Fin 7 → Fin 8) i

theorem p_inb (o : Fin 8) :
    ∀ a, (![o.val, 0, 0] : Fin 3 → Nat) a + S1x512x512.size a ≤ S8x512x512.size a := by revert o; decide
abbrev pRect (o : Fin 8) : Rect S8x512x512 :=
  Rect.unit (s := S8x512x512) ![o.val, 0, 0] S1x512x512.size (p_inb o)
theorem p_packed (o : Fin 8) : (pRect o).PackedRows (EltTy.packing .bf16) := by revert o; decide

theorem o_inb (p h : Fin 2) :
    ∀ a, (![256 * p.val, 256 * h.val] : Fin 2 → Nat) a + S256x256.size a ≤ S512x512.size a := by
  revert p h; decide
abbrev oRect (p h : Fin 2) : Rect S512x512 :=
  Rect.unit (s := S512x512) ![256 * p.val, 256 * h.val] S256x256.size (o_inb p h)
theorem o_packed (p h : Fin 2) : (oRect p h).PackedRows (EltTy.packing .bf16) := by revert p h; decide

theorem oc_inb (h : Fin 2) :
    ∀ a, (![0, 256 * h.val] : Fin 2 → Nat) a + S512x256.size a ≤ S512x512.size a := by revert h; decide
abbrev ocRect (h : Fin 2) : Rect S512x512 :=
  Rect.unit (s := S512x512) ![0, 256 * h.val] S512x256.size (oc_inb h)

theorem gc_inb (s : Fin 4) (h : Fin 2) :
    ∀ a, (![s.val, 0, 256 * h.val] : Fin 3 → Nat) a + S1x512x256.size a ≤ S4x512x512.size a := by
  revert s h; decide
abbrev gcRect (s : Fin 4) (h : Fin 2) : Rect S4x512x512 :=
  Rect.unit (s := S4x512x512) ![s.val, 0, 256 * h.val] S1x512x256.size (gc_inb s h)

theorem sl1 (p : Fin 2) : S512x512.Slices ![256 * p.val, 0] S256x512 := by
  match p with
  | 0 => exact slices_S512x512_o0_0_S256x512
  | 1 => exact slices_S512x512_o256_0_S256x512
theorem sl2 (h : Fin 2) : S256x512.Slices ![0, 256 * h.val] S256x256 := by
  match h with
  | 0 => exact slices_S256x512_o0_0_S256x256
  | 1 => exact slices_S256x512_o0_256_S256x256
theorem sl3 (p h : Fin 2) : S512x512.Slices ![256 * p.val, 256 * h.val] S256x256 := by
  match p, h with
  | 0, 0 => exact slices_S512x512_o0_0_S256x256
  | 0, 1 => exact slices_S512x512_o0_256_S256x256
  | 1, 0 => exact slices_S512x512_o256_0_S256x256
  | 1, 1 => exact slices_S512x512_o256_256_S256x256

/-- What an addition stores: the arrived piece plus the piece of the partial product. -/
def addPay (p h : Fin 2) (v : Vec F S1x512x512 .bf16) (w : Vec F S1x256x256 .bf16) : FVec F S1x256x256 .bf16 :=
  shapeCast S1x256x256 (addf (shapeCast S256x256 w shapeCasts_S1x256x256_S256x256)
    (extractStridedSlice S256x256 ![0, 256 * h.val]
      (extractStridedSlice S256x512 ![256 * p.val, 0] (shapeCast S512x512 v shapeCasts_S1x512x512_S512x512) (sl1 p))
      (sl2 h))) shapeCasts_S256x256_S1x256x256

/-- What a quarter of the own rows stores. -/
def ownPay (p h : Fin 2) (a b : Vec F S1x256x256 .bf16) (v : Vec F S1x512x512 .bf16) : FVec F S256x256 .bf16 :=
  shapeCast S256x256 (addf (addf (shapeCast S256x256 a shapeCasts_S1x256x256_S256x256)
    (shapeCast S256x256 b shapeCasts_S1x256x256_S256x256))
    (extractStridedSlice S256x256 ![256 * p.val, 256 * h.val] (shapeCast S512x512 v shapeCasts_S1x512x512_S512x512)
      (sl3 p h))) shapeCasts_S256x256_S256x256

/-- A stream's first partial sum, from its column half of the weights. -/
def seedPay (w : FVec F S512x256 .bf16) (x : Vec F S512x512 .bf16) : FVec F S1x512x256 .bf16 := k0_pay8 w x

/-- The column half of the weights. -/
def w1half (w1 : Vec F S512x512 .bf16) : Fin 2 → FVec F S512x256 .bf16
  | 0 => k0_pay2 w1
  | 1 => k0_pay3 w1

section prog

variable (x : Memref sig .tc .vmem S4096x512 .bf16) (y : Memref sig .tc .vmem S4096x256 .f32)
variable (c : Dev nD) (w1 : Vec F S512x512 .bf16) (u v : Vec F S256x256 .bf16)

/-- Load, add and store one piece. -/
def addProg (f : Fam) (p : Fin 2) (s : Nat) (hs : s < f.n) (o : Fin 8) (K : Pg F) : Pg F :=
  .op (.load pbuf (pRect o).toLoadRect (View.loadsAt_vmem h_S1x512x512)) fun a =>
  .op (.load (buf f) (pcRect f s p hs).toLoadRect (View.loadsAt_vmem h_S1x256x256)) fun b =>
  .op (.load (buf f) (pcRect f s p hs).toLoadRect (View.loadsAt_vmem h_S1x256x256)) fun _ =>
  .op (.store (buf f) (pcRect f s p hs) (addPay p f.half a b) Finset.univ
    (View.stores_vmem h_S1x256x256 ((buf_whole f).storeExact_slice rfl _ (pc_packed f s p hs)) (fun _ => rfl)) (.inl rfl))
    fun _ => K

/-- Store one chunk of the output. -/
def outProg (off : Fin 2 → Nat) (h : ∀ a, off a + S512x256.size a ≤ S4096x256.size a) (w : FVec F S512x256 .f32)
    (K : Pg F) : Pg F :=
  .op (.load y (Rect.unit (s := S4096x256) off S512x256.size h).toLoadRect (View.loadsAt_vmem h_S512x256)) fun _ =>
  .op (.store y (Rect.unit (s := S4096x256) off S512x256.size h) w Finset.univ
    (View.stores_vmem_bits_univ h_S512x256 rfl) (.inl rfl)) fun _ => K

/-- A quarter of the own rows. -/
def ownProg (f g : Fam) (sf sg : Nat) (hf : sf < f.n) (hg : sg < g.n) (p h : Fin 2) (K : Pg F) : Pg F :=
  .op (.load (buf f) (pcRect f sf p hf).toLoadRect (View.loadsAt_vmem h_S1x256x256)) fun a =>
  .op (.load (buf g) (pcRect g sg p hg).toLoadRect (View.loadsAt_vmem h_S1x256x256)) fun b =>
  .op (.load pbuf (pRect 0).toLoadRect (View.loadsAt_vmem h_S1x512x512)) fun d =>
  .op (.load obuf (oRect p h).toLoadRect (View.loadsAt_vmem h_S256x256)) fun _ =>
  .op (.store obuf (oRect p h) (ownPay p h a b d) Finset.univ
    (View.stores_vmem h_S256x256 ((Memref.isWhole_whole _).storeExact_slice rfl _ (o_packed p h)) (fun _ => rfl))
    (.inl rfl)) fun _ => K

/-- The row offsets of a gathered chunk. -/
def outOff (b : Bool) (s : Fin 3) : Fin 2 → Nat :=
  bif b then k0_off3 c (BitVec.ofNat 32 s.val) else k0_off4 c (BitVec.ofNat 32 s.val)
theorem outOff_inb (b : Bool) (s : Fin 3) : ∀ a, outOff c b s a + S512x256.size a ≤ S4096x256.size a := by
  cases b
  · exact k0_off4_inb c s
  · exact k0_off3_inb c s

/-- The program of a macro operation, before the program `K`. -/
def opProg : Op → Pg F → Pg F
  | .send k, K =>
    .op (.enqueueDma (src k) (.remote (Dev.tc (tgt k c)) (dst k) (.dma (ssem k)) (dst_notSc k)) (.dma (rsem k))
      (src_exact k) (dst_exact k) ⟨⟨rfl, Or.inl rfl⟩, trivial⟩) fun _ => K
  | .wR k, K => .op (.waitDma2 (rsem k) (dst k) (dst k) (dst_exact k) (dst_exact k)) fun _ => K
  | .wS k, K => .op (.waitDma2 (ssem k) (dst k) (src k) (dst_exact k) (src_exact k)) fun _ => K
  | .seed f, K =>
    .op (.load x (Rect.unit (s := S4096x512) (k0_off1 c (BitVec.ofNat 32 f.start.val)) S512x512.size (k0_off1_inb c f.start)).toLoadRect
      (View.loadsAt_vmem h_S512x512)) fun a =>
    .op (.load (buf f) (slotRect f f.seed (by cases f <;> decide)).toLoadRect (View.loadsAt_vmem h_S1x512x256)) fun _ =>
    .op (.store (buf f) (slotRect f f.seed (by cases f <;> decide)) (seedPay (w1half w1 f.half) a) Finset.univ
      (View.stores_vmem h_S1x512x256 ((buf_whole f).storeExact_slice rfl _ (slot_packed f)) (fun _ => rfl)) (.inl rfl)) fun _ => K
  | .part i, K =>
    .op (.load x (Rect.unit (s := S4096x512) (k0_off1 c (BitVec.ofNat 32 (pord i).val)) S512x512.size (k0_off1_inb c (pord i))).toLoadRect
      (View.loadsAt_vmem h_S512x512)) fun a =>
    .op (.load pbuf (pRect (pord i)).toLoadRect (View.loadsAt_vmem h_S1x512x512)) fun _ =>
    .op (.store pbuf (pRect (pord i)) (k0_pay11 (k0_pay1 w1) a) Finset.univ
      (View.stores_vmem h_S1x512x512 ((Memref.isWhole_whole _).storeExact_slice rfl _ (p_packed (pord i))) (fun _ => rfl)) (.inl rfl)) fun _ => K
  | .add f p s, K => addProg f p s.castSucc.val (dstSlot_lt f s.castSucc) (f.off s.castSucc) K
  | .add3 b p, K => addProg (lfam b) p 2 (l2_lt b) ((lfam b).off 2) K
  | .own p 0, K => ownProg .ra .la 3 2 (by decide) (by decide) p 0 K
  | .own p 1, K => ownProg .lb .rb 3 2 (by decide) (by decide) p 1 K
  | .out, K =>
    .op (.load obuf (ocRect 0).toLoadRect (View.loadsAt_vmem h_S512x256)) fun a =>
    .op (.load obuf (ocRect 1).toLoadRect (View.loadsAt_vmem h_S512x256)) fun b =>
    outProg y (k0_off2 c) (k0_off2_inb c) (k0_pay51 (k0_pay4 u) (k0_pay5 v) a b) K
  | .outG g s, K =>
    .op (.load (gbuf g) (gcRect s.castSucc 0).toLoadRect (View.loadsAt_vmem h_S1x512x256)) fun a =>
    .op (.load (gbuf g) (gcRect s.castSucc 1).toLoadRect (View.loadsAt_vmem h_S1x512x256)) fun b =>
    outProg y (outOff c g s) (outOff_inb c g s) (k0_pay52 (k0_pay4 u) (k0_pay5 v) a b) K
  | .outF, K =>
    .op (.load (gbuf true) (gcRect 3 0).toLoadRect (View.loadsAt_vmem h_S1x512x256)) fun a =>
    .op (.load (gbuf false) (gcRect 3 1).toLoadRect (View.loadsAt_vmem h_S1x512x256)) fun b =>
    outProg y (k0_off5 c) (k0_off5_inb c) (k0_pay52 (k0_pay4 u) (k0_pay5 v) a b) K

/-- The program of a list of operations. -/
def runOps : List Op → Pg F
  | [] => .ret ⟨⟩
  | o :: l => opProg x y c w1 u v o (runOps l)

end prog

/-- The copies, in the order they are fired. -/
def sends : List Cp :=
  [.rs .ra 0 0, .rs .ra 1 0, .rs .la 0 0, .rs .la 1 0, .rs .rb 0 0, .rs .rb 1 0, .rs .lb 0 0, .rs .lb 1 0,
   .rs .ra 0 1, .rs .la 0 1, .rs .rb 0 1, .rs .lb 0 1, .rs .ra 1 1, .rs .la 1 1, .rs .rb 1 1, .rs .lb 1 1,
   .rs .ra 0 2, .rs .la 0 2, .rs .rb 0 2, .rs .lb 0 2, .rs .ra 1 2, .rs .la 1 2, .rs .rb 1 2, .rs .lb 1 2,
   .rl true 0, .rl false 0, .rl true 1, .rl false 1,
   .own true 0, .own false 0, .own true 1, .own false 1,
   .ag true 0 0, .ag false 0 0, .ag true 1 0, .ag false 1 0,
   .ag true 0 1, .ag false 0 1, .ag true 1 1, .ag false 1 1,
   .last true 0, .last false 0, .last true 1, .last false 1]

/-- One step of the four streams: slot `s` arrives, is added to and is sent on. -/
def stepOps (s : Fin 2) : List Op :=
  ([0, 1] : List (Fin 2)).flatMap fun p => [Fam.ra, Fam.la, Fam.rb, Fam.lb].flatMap fun f =>
    [.wR (.rs f p s.castSucc), .add f p s, .send (.rs f p s.succ)]

/-- The whole body after the barrier and the weights. -/
def ops : List Op :=
  [Fam.ra, Fam.la, Fam.rb, Fam.lb].flatMap (fun f => [.seed f, .send (.rs f 0 0), .send (.rs f 1 0)])
  ++ [.part 0, .part 1, .part 2, .part 3, .part 4, .part 5, .part 6]
  ++ stepOps 0 ++ stepOps 1
  ++ ([0, 1] : List (Fin 2)).flatMap (fun p =>
      [.wR (.rs .ra p 2), .add3 true p, .send (.rl true p), .wR (.rs .lb p 2), .add3 false p, .send (.rl false p)])
  ++ ([0, 1] : List (Fin 2)).flatMap (fun p =>
      [.wR (.rl true p), .wR (.rs .la p 2), .own p 0, .wR (.rl false p), .wR (.rs .rb p 2), .own p 1,
       .send (.own true p), .send (.own false p)])
  ++ [.out]
  ++ ([0, 1] : List (Fin 2)).flatMap (fun p =>
      [.wR (.own true p), .send (.ag true p 0), .wR (.own false p), .send (.ag false p 0)])
  ++ [.outG true 0, .outG false 0]
  ++ ([0, 1] : List (Fin 2)).flatMap (fun p =>
      [.wR (.ag true p 0), .send (.ag true p 1), .wR (.ag false p 0), .send (.ag false p 1)])
  ++ [.outG true 1, .outG false 1]
  ++ ([0, 1] : List (Fin 2)).flatMap (fun p =>
      [.wR (.ag true p 1), .send (.last true p), .wR (.ag false p 1), .send (.last false p)])
  ++ [.outG true 2, .outG false 2,
      .wR (.last true 0), .wR (.last false 0), .wR (.last true 1), .wR (.last false 1), .outF]
  ++ sends.map .wS

/-- The barrier semaphore. -/
abbrev barSem : Sem sig := sig.barrier 0 rfl

/-- The kernel body as the barrier, the weights and the operations. -/
def body (x : Memref sig .tc .vmem S4096x512 .bf16) (a1 : Memref sig .tc .vmem S512x512 .bf16)
    (a2 : Memref sig .tc .vmem S512x256 .bf16) (y : Memref sig .tc .vmem S4096x256 .f32) : Pg F := do
  let c : Dev nD ← Prog.lift .deviceId
  semSignalWord (⟨k0_dev1 c, k0_dev1_lt c⟩ : Dev nD) barSem 1#32
  semSignalWord (⟨k0_dev2 c, k0_dev2_lt c⟩ : Dev nD) barSem 1#32
  semWaitWord barSem 2#32
  let w1 : Vec F S512x512 .bf16 ← Prog.lift (.load a1 (Rect.unit (s := S512x512) ![0, 0] S512x512.size inb_S512x512_S512x512_0_0).toLoadRect (View.loadsAt_vmem h_S512x512))
  let u : Vec F S256x256 .bf16 ← Prog.lift (.load a2 (Rect.unit (s := S512x256) ![0, 0] S256x256.size inb_S512x256_S256x256_0_0).toLoadRect (View.loadsAt_vmem h_S256x256))
  let v : Vec F S256x256 .bf16 ← Prog.lift (.load a2 (Rect.unit (s := S512x256) ![256, 0] S256x256.size inb_S512x256_S256x256_256_0).toLoadRect (View.loadsAt_vmem h_S256x256))
  runOps x y c w1 u v ops

end Cert.KernelIdeal.Ring
-- ==== Proof.Values.lean ====
/-
  What every buffer holds: the partial products, the running sums of the four streams, the
  device's own summed rows, the gathered rows and the output, from the devices' arguments; and
  that each operation of the kernel computes the next of them.
-/
module

public import proofs.«01_k».proof.Proof.Ring
public import Idealize.ShloMosaic.Lib.ValueLayout
public import Idealize.ShloMosaic.Lib.ViewIndex

@[expose] public section

noncomputable section

namespace Cert.KernelIdeal.Ring

open Cert.KernelIdeal Cert.KernelIdeal.Gen
open Idealize.ShloMosaic Idealize.ShloMosaic.ValueIdx Idealize.ShloMosaic.TcCoe Idealize.SL Idealize.SL.Sem

variable {F : FTy → Type} [FloatOps F]

/-- The devices' arguments. -/
structure Ins (F : FTy → Type) where
  x : Dev nD → Vec F S4096x512 .bf16
  w1 : Dev nD → Vec F S512x512 .bf16
  w2 : Dev nD → Vec F S512x256 .bf16

/-! ## The ring -/

theorem devL_devR (c : Dev nD) : devL (devR c) = c := by
  refine Fin.ext ?_; show k0_dev5 (devR c) = c.val; rw [k0_dev5_eq]; show (k0_dev3 c + 7) % 8 = c.val
  rw [k0_dev3_eq]; have := c.isLt; change c.val < 8 at this; omega
theorem devR_devL (c : Dev nD) : devR (devL c) = c := by
  refine Fin.ext ?_; show k0_dev3 (devL c) = c.val; rw [k0_dev3_eq]; show (k0_dev5 c + 1) % 8 = c.val
  rw [k0_dev5_eq]; have := c.isLt; change c.val < 8 at this; omega

/-- The neighbour what travels in a direction comes from (`true`: travelling right). -/
def frmB (b : Bool) (c : Dev nD) : Dev nD := bif b then devL c else devR c
/-- The neighbour copy `k` comes from. -/
abbrev frm (k : Cp) (c : Dev nD) : Dev nD := frmB k.right c
theorem frm_tgt (k : Cp) (c : Dev nD) : frm k (tgt k c) = c := by
  unfold frm frmB tgt; cases k.right
  · exact devR_devL c
  · exact devL_devR c
theorem tgt_frm (k : Cp) (c : Dev nD) : tgt k (frm k c) = c := by
  unfold frm frmB tgt; cases k.right
  · exact devL_devR c
  · exact devR_devL c

/-! ## Contents -/

/-- Column `j` of column half `h`. -/
abbrev colAt (h : Fin 2) (j : Fin 256) : Fin 512 := ⟨256 * h.val + j.val, by omega⟩

section vals

variable (I : Ins F)

/-- The rows of the device's argument `o` chunks after its own. -/
def chunk (c : Dev nD) (o : Fin 8) : Vec F S512x512 .bf16 := fun i =>
  I.x c ((Rect.unit (s := S4096x512) (k0_off1 c (BitVec.ofNat 32 o.val)) S512x512.size (k0_off1_inb c o)).emb i)

/-- The partial products. -/
def PV (c : Dev nD) : S8x512x512.Idx → Elt F .bf16 := fun i =>
  k0_pay11 (k0_pay1 (I.w1 c)) (chunk I c (i 0)) (ix3 (0 : Fin 1) (i 1) (i 2))

/-- A stream's first partial sum. -/
def seedV (f : Fam) (c : Dev nD) (r : Fin 512) (j : Fin 256) : Elt F .bf16 :=
  seedPay (w1half (I.w1 c) f.half) (chunk I c f.start) (ix3 (0 : Fin 1) r j)

/-- The running sum of a stream after `s` additions, on the device that made the last one. -/
def chain (f : Fam) : ℕ → Dev nD → Fin 512 → Fin 256 → Elt F .bf16
  | 0, c, r, j => seedV I f c r j
  | s + 1, c, r, j => FloatOps.addf (chain f s (frmB f.right c) r j)
      (PV I c (ix3 (f.off (Fin.ofNat 3 s)) r (colAt f.half j)))

/-- What a stream's slots hold when they are sent. -/
def VS (f : Fam) (c : Dev nD) : (RS f.n).Idx → Elt F .bf16 := fun i =>
  chain I f (if (i 0).val = f.seed then 0 else (i 0).val + 1) c (i 1) (i 2)
/-- What a stream's slots hold on arrival. -/
def VL (f : Fam) (c : Dev nD) : (RS f.n).Idx → Elt F .bf16 := fun i =>
  chain I f (i 0).val (frmB f.right c) (i 1) (i 2)

/-- The device's own summed rows. -/
def OV (c : Dev nD) : S512x512.Idx → Elt F .bf16 := fun i =>
  if h : (i 1).val < 256 then
    FloatOps.addf (FloatOps.addf (chain I .ra 3 (devL c) (i 0) ⟨(i 1).val, h⟩) (chain I .la 2 (devR c) (i 0) ⟨(i 1).val, h⟩))
      (PV I c (ix3 (0 : Fin 8) (i 0) (i 1)))
  else
    have h' : (i 1).val - 256 < 256 := by have := (i 1).isLt; change (i 1).val < 512 at this; omega
    FloatOps.addf (FloatOps.addf (chain I .lb 3 (devR c) (i 0) ⟨(i 1).val - 256, h'⟩) (chain I .rb 2 (devL c) (i 0) ⟨(i 1).val - 256, h'⟩))
      (PV I c (ix3 (0 : Fin 8) (i 0) (i 1)))

/-- The device whose rows gather slot `s` of a direction holds. -/
def gdev (b : Bool) : ℕ → Dev nD → Dev nD
  | 0, c => frmB b c
  | s + 1, c => gdev b s (frmB b c)

/-- The gathered rows. -/
def GV (b : Bool) (c : Dev nD) : S4x512x512.Idx → Elt F .bf16 := fun i => OV I (gdev b (i 0).val c) (ix2 (i 1) (i 2))

/-- A column half of a device's summed rows. -/
def OVh (q : Dev nD) (h : Fin 2) : Vec F S512x256 .bf16 := fun i => OV I q (ix2 (i 0) (colAt h (i 1)))

/-- The two row halves of the second weights. -/
def w2u (c : Dev nD) : Vec F S256x256 .bf16 := fun i =>
  I.w2 c ((Rect.unit (s := S512x256) ![0, 0] S256x256.size inb_S512x256_S256x256_0_0).emb i)
def w2v (c : Dev nD) : Vec F S256x256 .bf16 := fun i =>
  I.w2 c ((Rect.unit (s := S512x256) ![256, 0] S256x256.size inb_S512x256_S256x256_256_0).emb i)

/-- The output rows of device `q`'s chunk, on device `c`. -/
def outV (c q : Dev nD) : FVec F S512x256 .f32 :=
  k0_pay51 (k0_pay4 (w2u I c)) (k0_pay5 (w2v I c)) (OVh I q 0) (OVh I q 1)

/-- The output. -/
def OUT (c : Dev nD) : Vec F S4096x256 .f32 := fun i =>
  outV I c ⟨(i 0).val / 512, by have := (i 0).isLt; change (i 0).val < 4096 at this; change _ < 8; omega⟩
    (ix2 (⟨(i 0).val % 512, Nat.mod_lt _ (by decide)⟩ : Fin 512) (i 1))

/-- What a copy carries. -/
def VK : (k : Cp) → Dev nD → k.sh.Idx → Elt F .bf16
  | .rs f p s, c => fun i => chain I f s.val c (colAt p (i 0)) (i 1)
  | .rl b p, c => fun i => chain I (lfam b) 3 c (colAt p (i 0)) (i 1)
  | .own b p, c => fun i => OV I c (ix2 (colAt p (i 0)) (i 1))
  | .ag b p s, c => fun i => OV I (gdev b s.val c) (ix2 (colAt p (i 0)) (i 1))
  | .last b p, c => fun i => OV I (gdev b 2 c) (ix2 (colAt p (i 0)) (colAt (lhalf b) (i 1)))

end vals

/-! ## The rectangles' index maps -/

theorem pc_emb (f : Fam) (s : Nat) (p : Fin 2) (hs : s < f.n) (i : S1x256x256.Idx) :
    (pcRect f s p hs).emb i = (ix3 (⟨s, hs⟩ : Fin f.n) (colAt p (i 1)) (i 2) : (RS f.n).Idx) :=
  Shape.idx3_ext (by rw [Rect.emb_apply]; show s + 1 * (i 0).val = s; have := (i 0).isLt; change (i 0).val < 1 at this; omega)
    (by rw [Rect.emb_apply]; show 256 * p.val + 1 * (i 1).val = _; rw [Nat.one_mul]; rfl)
    (by rw [Rect.emb_apply]; show 0 + 1 * (i 2).val = _; rw [Nat.one_mul, Nat.zero_add]; rfl)
theorem gb_emb (s : Fin 3) (p : Fin 2) (i : S1x256x512.Idx) :
    (gbRect s p).emb i = (ix3 s.castSucc (colAt p (i 1)) (i 2) : S4x512x512.Idx) :=
  Shape.idx3_ext (by rw [Rect.emb_apply]; show s.val + 1 * (i 0).val = s.val; have := (i 0).isLt; change (i 0).val < 1 at this; omega)
    (by rw [Rect.emb_apply]; show 256 * p.val + 1 * (i 1).val = _; rw [Nat.one_mul])
    (by rw [Rect.emb_apply]; show 0 + 1 * (i 2).val = _; rw [Nat.one_mul, Nat.zero_add])
theorem gh_emb (s : Fin 4) (p h : Fin 2) (i : S1x256x256.Idx) :
    (ghRect s p h).emb i = (ix3 s (colAt p (i 1)) (colAt h (i 2)) : S4x512x512.Idx) :=
  Shape.idx3_ext (by rw [Rect.emb_apply]; show s.val + 1 * (i 0).val = s.val; have := (i 0).isLt; change (i 0).val < 1 at this; omega)
    (by rw [Rect.emb_apply]; show 256 * p.val + 1 * (i 1).val = _; rw [Nat.one_mul])
    (by rw [Rect.emb_apply]; show 256 * h.val + 1 * (i 2).val = _; rw [Nat.one_mul])
theorem gc_emb (s : Fin 4) (h : Fin 2) (i : S1x512x256.Idx) :
    (gcRect s h).emb i = (ix3 s (i 1) (colAt h (i 2)) : S4x512x512.Idx) :=
  Shape.idx3_ext (by rw [Rect.emb_apply]; show s.val + 1 * (i 0).val = s.val; have := (i 0).isLt; change (i 0).val < 1 at this; omega)
    (by rw [Rect.emb_apply]; show 0 + 1 * (i 1).val = _; rw [Nat.one_mul, Nat.zero_add])
    (by rw [Rect.emb_apply]; show 256 * h.val + 1 * (i 2).val = _; rw [Nat.one_mul])
theorem p_emb (o : Fin 8) (i : S1x512x512.Idx) : (pRect o).emb i = (ix3 o (i 1) (i 2) : S8x512x512.Idx) :=
  Shape.idx3_ext (by rw [Rect.emb_apply]; show o.val + 1 * (i 0).val = o.val; have := (i 0).isLt; change (i 0).val < 1 at this; omega)
    (by rw [Rect.emb_apply]; show 0 + 1 * (i 1).val = _; rw [Nat.one_mul, Nat.zero_add])
    (by rw [Rect.emb_apply]; show 0 + 1 * (i 2).val = _; rw [Nat.one_mul, Nat.zero_add])
theorem slot_emb (f : Fam) (s : Nat) (hs : s < f.n) (i : S1x512x256.Idx) :
    (slotRect f s hs).emb i = (ix3 (⟨s, hs⟩ : Fin f.n) (i 1) (i 2) : (RS f.n).Idx) :=
  Shape.idx3_ext (by rw [Rect.emb_apply]; show s + 1 * (i 0).val = s; have := (i 0).isLt; change (i 0).val < 1 at this; omega)
    (by rw [Rect.emb_apply]; show 0 + 1 * (i 1).val = _; rw [Nat.one_mul, Nat.zero_add]; rfl)
    (by rw [Rect.emb_apply]; show 0 + 1 * (i 2).val = _; rw [Nat.one_mul, Nat.zero_add]; rfl)

theorem idx2_ext {a b : ℕ} (i j : (⟨2, ![a, b]⟩ : Shape).Idx) (h0 : (i 0).val = (j 0).val) (h1 : (i 1).val = (j 1).val) : i = j :=
  funext fun k => Fin.ext (by fin_cases k; exact h0; exact h1)

theorem ob_emb (p : Fin 2) (i : S256x512.Idx) : (obRect p).emb i = (ix2 (colAt p (i 0)) (i 1) : S512x512.Idx) :=
  idx2_ext _ _ (by rw [Rect.emb_apply]; show 256 * p.val + 1 * (i 0).val = _; rw [Nat.one_mul])
    (by rw [Rect.emb_apply]; show 0 + 1 * (i 1).val = _; rw [Nat.one_mul, Nat.zero_add])
theorem o_emb (p h : Fin 2) (i : S256x256.Idx) : (oRect p h).emb i = (ix2 (colAt p (i 0)) (colAt h (i 1)) : S512x512.Idx) :=
  idx2_ext _ _ (by rw [Rect.emb_apply]; show 256 * p.val + 1 * (i 0).val = _; rw [Nat.one_mul])
    (by rw [Rect.emb_apply]; show 256 * h.val + 1 * (i 1).val = _; rw [Nat.one_mul])
theorem oc_emb (h : Fin 2) (i : S512x256.Idx) : (ocRect h).emb i = (ix2 (i 0) (colAt h (i 1)) : S512x512.Idx) :=
  idx2_ext _ _ (by rw [Rect.emb_apply]; show 0 + 1 * (i 0).val = _; rw [Nat.one_mul, Nat.zero_add])
    (by rw [Rect.emb_apply]; show 256 * h.val + 1 * (i 1).val = _; rw [Nat.one_mul])

/-! ## The operations' results -/

variable (I : Ins F) (c : Dev nD)

theorem seed_val (f : Fam) (i : S1x512x256.Idx) :
    VS I f c ((slotRect f f.seed (by cases f <;> decide)).emb i) = seedPay (w1half (I.w1 c) f.half) (chunk I c f.start) i := by
  rw [slot_emb]
  show chain I f (if f.seed = f.seed then 0 else f.seed + 1) c (i 1) (i 2) = _
  rw [if_pos rfl]
  show seedPay (w1half (I.w1 c) f.half) (chunk I c f.start) (ix3 (0 : Fin 1) (i 1) (i 2)) = _
  congr 1
  exact Shape.idx3_ext (by have := (i 0).isLt; change (i 0).val < 1 at this; show 0 = (i 0).val; omega) rfl rfl

theorem part_val (o : Fin 8) (i : S1x512x512.Idx) :
    PV I c ((pRect o).emb i) = k0_pay11 (k0_pay1 (I.w1 c)) (chunk I c o) i := by
  rw [p_emb]
  show k0_pay11 (k0_pay1 (I.w1 c)) (chunk I c o) (ix3 (0 : Fin 1) (i 1) (i 2)) = _
  congr 1
  exact Shape.idx3_ext (by have := (i 0).isLt; change (i 0).val < 1 at this; show 0 = (i 0).val; omega) rfl rfl

theorem addPay_apply (p h : Fin 2) (v : Vec F S1x512x512 .bf16) (w : Vec F S1x256x256 .bf16) (i : S1x256x256.Idx) :
    addPay p h v w i = FloatOps.addf (w (ix3 (0 : Fin 1) (i 1) (i 2))) (v (ix3 (0 : Fin 1) (colAt p (i 1)) (colAt h (i 2)))) := by
  obtain ⟨u, a, b, rfl⟩ : ∃ (u : Fin 1) (a b : Fin 256), i = ix3 u a b :=
    ⟨i 0, i 1, i 2, Shape.idx3_ext rfl rfl rfl⟩
  unfold addPay
  rw [shapeCast_ab_1ab_apply]
  show FloatOps.addf (shapeCast S256x256 w shapeCasts_S1x256x256_S256x256 (ix2 a b)) _ = _
  rw [shapeCast_1ab_ab_apply]
  congr 1
  rw [extractStridedSlice_apply _ _ _ _ (ix2 a (colAt h b)) (by intro k; fin_cases k <;> simp [ix2]),
    extractStridedSlice_apply _ _ _ _ (ix2 (colAt p a) (colAt h b)) (by intro k; fin_cases k <;> simp [ix2]),
    shapeCast_1ab_ab_apply]

theorem add_val (f : Fam) (p : Fin 2) (s : Fin 3) (hs : s.val < f.seed) (i : S1x256x256.Idx) :
    VS I f c ((pcRect f s.val p (dstSlot_lt f s)).emb i)
      = addPay p f.half (fun i => PV I c ((pRect (f.off s)).emb i)) (fun i => VL I f c ((pcRect f s.val p (dstSlot_lt f s)).emb i)) i := by
  rw [addPay_apply]
  simp only [pc_emb, p_emb]
  show chain I f (if s.val = f.seed then 0 else s.val + 1) c (colAt p (i 1)) (i 2) = _
  rw [if_neg (Nat.ne_of_lt hs)]
  show FloatOps.addf _ (PV I c (ix3 (f.off (Fin.ofNat 3 s.val)) _ _)) = _
  rw [show Fin.ofNat 3 s.val = s from Fin.ext (Nat.mod_eq_of_lt s.isLt)]
  rfl

theorem ownPay_apply (p h : Fin 2) (a b : Vec F S1x256x256 .bf16) (v : Vec F S1x512x512 .bf16) (i : S256x256.Idx) :
    ownPay p h a b v i = FloatOps.addf (FloatOps.addf (a (ix3 (0 : Fin 1) (i 0) (i 1))) (b (ix3 (0 : Fin 1) (i 0) (i 1))))
      (v (ix3 (0 : Fin 1) (colAt p (i 0)) (colAt h (i 1)))) := by
  obtain ⟨r, j, rfl⟩ : ∃ (r j : Fin 256), i = ix2 r j := ⟨i 0, i 1, idx2_ext _ _ rfl rfl⟩
  unfold ownPay
  rw [shapeCast_self]
  show FloatOps.addf (FloatOps.addf (shapeCast S256x256 a shapeCasts_S1x256x256_S256x256 (ix2 r j))
    (shapeCast S256x256 b shapeCasts_S1x256x256_S256x256 (ix2 r j))) _ = _
  rw [shapeCast_1ab_ab_apply, shapeCast_1ab_ab_apply]
  congr 1
  rw [extractStridedSlice_apply _ _ _ _ (ix2 (colAt p r) (colAt h j)) (by intro k; fin_cases k <;> simp [ix2]),
    shapeCast_1ab_ab_apply]

theorem OV_left (r : Fin 512) (j : Fin 256) :
    OV I c (ix2 r (colAt 0 j)) = FloatOps.addf (FloatOps.addf (chain I .ra 3 (devL c) r j) (chain I .la 2 (devR c) r j))
      (PV I c (ix3 (0 : Fin 8) r (colAt 0 j))) := by
  have e : ∀ h, (⟨(colAt 0 j).val, h⟩ : Fin 256) = j := fun h => Fin.ext (by show 256 * 0 + j.val = _; omega)
  have h : (colAt 0 j).val < 256 := by show 256 * 0 + j.val < 256; omega
  refine (dif_pos h).trans ?_
  exact congrArg (fun j' => FloatOps.addf (FloatOps.addf (chain I .ra 3 (devL c) r j') (chain I .la 2 (devR c) r j'))
    (PV I c (ix3 (0 : Fin 8) r (colAt 0 j)))) (e h)

theorem OV_right (r : Fin 512) (j : Fin 256) :
    OV I c (ix2 r (colAt 1 j)) = FloatOps.addf (FloatOps.addf (chain I .lb 3 (devR c) r j) (chain I .rb 2 (devL c) r j))
      (PV I c (ix3 (0 : Fin 8) r (colAt 1 j))) := by
  have e : ∀ h, (⟨(colAt 1 j).val - 256, h⟩ : Fin 256) = j := fun h => Fin.ext (by show 256 * 1 + j.val - 256 = _; omega)
  have h : ¬ (colAt 1 j).val < 256 := by show ¬ (256 * 1 + j.val < 256); omega
  have h' : (colAt 1 j).val - 256 < 256 := by show 256 * 1 + j.val - 256 < 256; omega
  refine (dif_neg h).trans ?_
  exact congrArg (fun j' => FloatOps.addf (FloatOps.addf (chain I .lb 3 (devR c) r j') (chain I .rb 2 (devL c) r j'))
    (PV I c (ix3 (0 : Fin 8) r (colAt 1 j)))) (e h')

theorem own_val0 (p : Fin 2) (i : S256x256.Idx) :
    OV I c ((oRect p 0).emb i) = ownPay p 0 (fun i => VL I .ra c ((pcRect .ra 3 p (by decide)).emb i))
      (fun i => VL I .la c ((pcRect .la 2 p (by decide)).emb i)) (fun i => PV I c ((pRect 0).emb i)) i := by
  rw [ownPay_apply, o_emb]
  have e1 := pc_emb .ra 3 p (by decide) (ix3 (0 : Fin 1) (i 0) (i 1))
  have e2 := pc_emb .la 2 p (by decide) (ix3 (0 : Fin 1) (i 0) (i 1))
  have e3 := p_emb 0 (ix3 (0 : Fin 1) (colAt p (i 0)) (colAt 0 (i 1)))
  refine (OV_left I c (colAt p (i 0)) (i 1)).trans ?_
  show _ = FloatOps.addf (FloatOps.addf (VL I .ra c ((pcRect .ra 3 p (by decide)).emb (ix3 (0 : Fin 1) (i 0) (i 1))))
    (VL I .la c ((pcRect .la 2 p (by decide)).emb (ix3 (0 : Fin 1) (i 0) (i 1)))))
    (PV I c ((pRect 0).emb (ix3 (0 : Fin 1) (colAt p (i 0)) (colAt 0 (i 1)))))
  rw [e1, e2, e3]
  rfl

theorem own_val1 (p : Fin 2) (i : S256x256.Idx) :
    OV I c ((oRect p 1).emb i) = ownPay p 1 (fun i => VL I .lb c ((pcRect .lb 3 p (by decide)).emb i))
      (fun i => VL I .rb c ((pcRect .rb 2 p (by decide)).emb i)) (fun i => PV I c ((pRect 0).emb i)) i := by
  rw [ownPay_apply, o_emb]
  have e1 := pc_emb .lb 3 p (by decide) (ix3 (0 : Fin 1) (i 0) (i 1))
  have e2 := pc_emb .rb 2 p (by decide) (ix3 (0 : Fin 1) (i 0) (i 1))
  have e3 := p_emb 0 (ix3 (0 : Fin 1) (colAt p (i 0)) (colAt 1 (i 1)))
  refine (OV_right I c (colAt p (i 0)) (i 1)).trans ?_
  show _ = FloatOps.addf (FloatOps.addf (VL I .lb c ((pcRect .lb 3 p (by decide)).emb (ix3 (0 : Fin 1) (i 0) (i 1))))
    (VL I .rb c ((pcRect .rb 2 p (by decide)).emb (ix3 (0 : Fin 1) (i 0) (i 1)))))
    (PV I c ((pRect 0).emb (ix3 (0 : Fin 1) (colAt p (i 0)) (colAt 1 (i 1)))))
  rw [e1, e2, e3]
  rfl

theorem oc_val (h : Fin 2) : (fun i => OV I c ((ocRect h).emb i)) = OVh I c h :=
  funext fun i => by rw [oc_emb]; rfl

theorem pay52_eq (u v : Vec F S256x256 .bf16) (a b : Vec F S1x512x256 .bf16) :
    k0_pay52 u v a b = k0_pay51 u v (fun i => a (ix3 (0 : Fin 1) (i 0) (i 1))) (fun i => b (ix3 (0 : Fin 1) (i 0) (i 1))) := by
  have e : ∀ a : Vec F S1x512x256 .bf16, shapeCast S512x256 a shapeCasts_S1x512x256_S512x256 = fun i => a (ix3 (0 : Fin 1) (i 0) (i 1)) :=
    fun a => funext fun i => by
      obtain ⟨r, j, rfl⟩ : ∃ (r : Fin 512) (j : Fin 256), i = ix2 r j := ⟨i 0, i 1, idx2_ext _ _ rfl rfl⟩
      rw [shapeCast_1ab_ab_apply]
  unfold k0_pay52 k0_pay51
  rw [e a, e b]

theorem gc_val (b : Bool) (s : Fin 4) (h : Fin 2) :
    (fun i : S512x256.Idx => GV I b c ((gcRect s h).emb (ix3 (0 : Fin 1) (i 0) (i 1)))) = OVh I (gdev b s.val c) h :=
  funext fun i => by rw [gc_emb]; rfl

/-! ## The copies' contents -/

/-- What the stream copy `s` carries is what its source slot holds. -/
theorem rs_src_val (f : Fam) (p : Fin 2) (s : Fin 3) (i : S256x256.Idx) :
    VS I f c ((pcRect f (srcSlot f s) p (srcSlot_lt f s)).emb (ix3 (0 : Fin 1) (i 0) (i 1))) = VK I (.rs f p s) c i := by
  rw [pc_emb]
  show chain I f (if srcSlot f s = f.seed then 0 else srcSlot f s + 1) c (colAt p (i 0)) (i 1) = chain I f s.val c (colAt p (i 0)) (i 1)
  congr 1
  revert s; cases f <;> decide

theorem rl_src_val (b : Bool) (p : Fin 2) (i : S256x256.Idx) :
    VS I (lfam b) c ((pcRect (lfam b) 2 p (l2_lt b)).emb (ix3 (0 : Fin 1) (i 0) (i 1))) = VK I (.rl b p) c i := by
  rw [pc_emb]; cases b <;> rfl

theorem rs_dst_val (f : Fam) (p : Fin 2) (s : Fin 3) (i : S256x256.Idx) :
    VL I f c ((pcRect f s.val p (dstSlot_lt f s)).emb (ix3 (0 : Fin 1) (i 0) (i 1))) = VK I (.rs f p s) (frm (.rs f p s) c) i := by
  rw [pc_emb]; rfl

theorem rl_dst_val (b : Bool) (p : Fin 2) (i : S256x256.Idx) :
    VL I (lfam b) c ((pcRect (lfam b) 3 p (l3_lt b)).emb (ix3 (0 : Fin 1) (i 0) (i 1))) = VK I (.rl b p) (frm (.rl b p) c) i := by
  rw [pc_emb]; cases b <;> rfl

theorem own_src_val (b : Bool) (p : Fin 2) (i : S256x512.Idx) : OV I c ((obRect p).emb i) = VK I (.own b p) c i := by
  rw [ob_emb]; rfl

theorem own_dst_val (b : Bool) (p : Fin 2) (i : S256x512.Idx) :
    GV I b c ((gbRect 0 p).emb (ix3 (0 : Fin 1) (i 0) (i 1))) = VK I (.own b p) (frm (.own b p) c) i := by
  rw [gb_emb]; rfl

theorem ag_src_val (b : Bool) (p : Fin 2) (s : Fin 2) (i : S256x512.Idx) :
    GV I b c ((gbRect s.castSucc p).emb (ix3 (0 : Fin 1) (i 0) (i 1))) = VK I (.ag b p s) c i := by
  rw [gb_emb]; rfl

theorem ag_dst_val (b : Bool) (p : Fin 2) (s : Fin 2) (i : S256x512.Idx) :
    GV I b c ((gbRect s.succ p).emb (ix3 (0 : Fin 1) (i 0) (i 1))) = VK I (.ag b p s) (frm (.ag b p s) c) i := by
  rw [gb_emb]; rfl

theorem last_src_val (b : Bool) (p : Fin 2) (i : S256x256.Idx) :
    GV I b c ((ghRect 2 p (lhalf b)).emb (ix3 (0 : Fin 1) (i 0) (i 1))) = VK I (.last b p) c i := by
  rw [gh_emb]; rfl

theorem last_dst_val (b : Bool) (p : Fin 2) (i : S256x256.Idx) :
    GV I b c ((ghRect 3 p (lhalf b)).emb (ix3 (0 : Fin 1) (i 0) (i 1))) = VK I (.last b p) (frm (.last b p) c) i := by
  rw [gh_emb]; rfl

end Cert.KernelIdeal.Ring
-- ==== Proof.Piece.lean ====
/-
  Pieces of a buffer held by the coordinates of a view of it: splitting, joining, loading and
  storing them. The contents are named by a function on the view's own indices.
-/
module

public import Idealize.ShloMosaic.Lib.Pipeline.Launch
public import Idealize.ShloMosaic.Lib.Pipeline.Kit
public import Idealize.ShloMosaic.Lib.Tactic

@[expose] public section

noncomputable section

namespace Cert.Piece

open Idealize.ShloMosaic Idealize.ShloMosaic.TcCoe Idealize.SL Idealize.SL.RA Idealize.SL.BI
open scoped Idealize.SL.BI
open Idealize.SL.BI.BIBase Idealize.SL.BI.Laws Idealize.SL.ProofMode
open Idealize.SL.Sem
open PCS URA Auth

section

variable {nD : Nat} {τ : Topo} {sig : RefSig} {Ix : Type} [DecidableEq Ix]
variable {Val : EltTy → Type} [∀ e, Nonempty (Val e)] {Name : Type} [DecidableEq Name]
variable {U : Type} [URA U]
variable {Lvl : Type} {Λ : Labels}
variable {s : Shape} {e : EltTy}

local notation "𝕄" => MT nD τ sig Ix Val Name U Lvl

/-- The elements of view `v` at the indices `R`, holding `g` there. -/
def slab (c : Thread nD τ) {sp : Space} (v : View sig c.2.kind sp s e) (R : Finset s.Idx) (q : PosShare TreeShare)
    (g : s.Idx → Val e) : sProp 𝕄 :=
  v.loc c ↦[v.setOn R]{q} v.rep g

/-- The elements of view `v` at the indices `R`, holding anything. -/
def junk (c : Thread nD τ) {sp : Space} (v : View sig c.2.kind sp s e) (R : Finset s.Idx) : sProp 𝕄 :=
  iprop(∃ g : s.Idx → Val e, slab c v R fullShare g)

variable (c : Thread nD τ) {sp : Space} (v : View sig c.2.kind sp s e)

/-- Elements held at any contents are a piece. -/
theorem slab_of (R : Finset s.Idx) (q : PosShare TreeShare) (f : Buf Val (v.loc c)) :
    (v.loc c ↦[v.setOn R]{q} f : sProp 𝕄) = slab c v R q (v.read Val f) :=
  pointsTo_congr fun i hi => by
    obtain ⟨x, -, rfl⟩ := Finset.mem_map.mp hi
    rw [View.rep_emb, View.read_apply, cast_cast, cast_eq]

theorem slab_congr {R : Finset s.Idx} {q : PosShare TreeShare} {g g' : s.Idx → Val e} (h : ∀ i ∈ R, g i = g' i) :
    (slab c v R q g : sProp 𝕄) = slab c v R q g' :=
  pointsTo_congr fun i hi => by
    obtain ⟨x, hx, rfl⟩ := Finset.mem_map.mp hi
    rw [View.rep_emb, View.rep_emb, h x hx]

theorem slab_union {R R' : Finset s.Idx} (h : Disjoint R R') (q : PosShare TreeShare) (g : s.Idx → Val e) :
    (slab c v (R ∪ R') q g : sProp 𝕄) ⊣⊢ iprop(slab c v R q g ∗ slab c v R' q g) := by
  unfold slab
  rw [show v.setOn (R ∪ R') = v.setOn R ∪ v.setOn R' from Finset.map_union _ _]
  exact pointsTo_union ((Finset.disjoint_map v.emb).mpr h)

theorem slab_share {R : Finset s.Idx} {q q₁ q₂ : PosShare TreeShare} (h : q ∈ q₁ ·? q₂) (g : s.Idx → Val e) :
    (slab c v R q g : sProp 𝕄) ⊣⊢ iprop(slab c v R q₁ g ∗ slab c v R q₂ g) :=
  pointsTo_share h

/-- Two pieces of different contents, joined. -/
theorem slab_join {R R' : Finset s.Idx} (h : Disjoint R R') (q : PosShare TreeShare) (g g' : s.Idx → Val e) :
    iprop(slab c v R q g ∗ slab c v R' q g') ⊢ (iprop(∃ g'' : s.Idx → Val e, slab c v (R ∪ R') q g'') : sProp 𝕄) := by
  classical
  have e1 : (slab c v R q g : sProp 𝕄) = slab c v R q (fun i => if i ∈ R then g i else g' i) :=
    slab_congr c v fun i hi => by rw [if_pos hi]
  have e2 : (slab c v R' q g' : sProp 𝕄) = slab c v R' q (fun i => if i ∈ R then g i else g' i) :=
    slab_congr c v fun i hi => by rw [if_neg (Finset.disjoint_right.mp h hi)]
  rw [e1, e2]
  exact (slab_union c v h q _).2.trans (exists_intro _)

theorem junk_intro {R : Finset s.Idx} (g : s.Idx → Val e) : (slab c v R fullShare g : sProp 𝕄) ⊢ junk c v R :=
  exists_intro g

theorem junk_of {R : Finset s.Idx} (f : Buf Val (v.loc c)) : (v.loc c ↦[v.setOn R]{fullShare} f : sProp 𝕄) ⊢ junk c v R := by
  rw [slab_of]; exact junk_intro c v _

theorem junk_join {R R' : Finset s.Idx} (h : Disjoint R R') :
    iprop(junk c v R ∗ junk c v R') ⊢ (junk c v (R ∪ R') : sProp 𝕄) := by
  unfold junk
  iintro ⟨⟨%g, H⟩, ⟨%g', H'⟩⟩
  icases (slab_join (Ix := Ix) (Name := Name) (U := U) (Lvl := Lvl) c v h fullShare g g') $$ [H H'] with H
  · isplitl [H]; iexact H; iexact H'
  iexact H

/-- The piece through a rectangle of the view, squeezed or not. -/
theorem slab_slice (r : Rect s) (q : PosShare TreeShare) (g : s.Idx → Val e) :
    (slab c (v.slice r) Finset.univ q (fun i => g (r.emb i)) : sProp 𝕄) = slab c v r.set q g := by
  unfold slab
  rw [View.setOn_univ, View.set_slice]
  refine pointsTo_congr fun i hi => ?_
  obtain ⟨j, hj, rfl⟩ := Finset.mem_map.mp hi
  rw [← r.map_emb_univ] at hj
  obtain ⟨x, -, rfl⟩ := Finset.mem_map.mp hj
  rw [View.rep_emb, show v.emb (r.emb x) = (v.slice r).emb x from rfl, View.rep_emb]

theorem slab_reshape {s' : Shape} (h : s'.numel = s.numel) (q : PosShare TreeShare) (g : s.Idx → Val e) :
    (slab c (v.reshape s' h) Finset.univ q (fun i => g (Shape.reshapeEquiv h i)) : sProp 𝕄)
      = slab c v Finset.univ q g := by
  unfold slab
  rw [View.setOn_univ, View.set_reshape, View.setOn_univ]
  refine pointsTo_congr fun i hi => ?_
  obtain ⟨x, -, rfl⟩ := Finset.mem_map.mp hi
  obtain ⟨y, rfl⟩ := (Shape.reshapeEquiv h).surjective x
  rw [View.rep_emb, show v.emb (Shape.reshapeEquiv h y) = (v.reshape s' h).emb y from rfl, View.rep_emb]

/-- The piece through a rectangle, squeezed. -/
theorem slab_squeeze (r : Rect s) {s' : Shape} (h : s'.numel = r.shape.numel) (q : PosShare TreeShare) (g : s.Idx → Val e) :
    (slab c ((v.slice r).reshape s' h) Finset.univ q (fun i => g (r.emb (Shape.reshapeEquiv h i))) : sProp 𝕄)
      = slab c v r.set q g := by
  rw [← slab_slice c v r q g, ← slab_reshape c (v.slice r) h q]

theorem junk_slice (r : Rect s) : (junk c (v.slice r) Finset.univ : sProp 𝕄) ⊣⊢ junk c v r.set := by
  have hset : (v.slice r).setOn Finset.univ = v.setOn r.set := by rw [View.setOn_univ, View.set_slice]; rfl
  constructor
  · refine exists_elim fun g => ?_
    unfold slab
    rw [hset]
    exact junk_of c v (R := r.set) ((v.slice r).rep g)
  · refine exists_elim fun g => ?_
    rw [← slab_slice]
    exact junk_intro c (v.slice r) _

theorem junk_reshape {s' : Shape} (h : s'.numel = s.numel) :
    (junk c (v.reshape s' h) Finset.univ : sProp 𝕄) ⊣⊢ junk c v Finset.univ := by
  have hset : (v.reshape s' h).setOn Finset.univ = v.setOn Finset.univ := by
    rw [View.setOn_univ, View.set_reshape, View.setOn_univ]
  constructor
  · refine exists_elim fun g => ?_
    unfold slab
    rw [hset]
    exact junk_of c v (R := Finset.univ) ((v.reshape s' h).rep g)
  · refine exists_elim fun g => ?_
    rw [← slab_reshape c v h]
    exact junk_intro c (v.reshape s' h) _

theorem junk_squeeze (r : Rect s) {s' : Shape} (h : s'.numel = r.shape.numel) :
    (junk c ((v.slice r).reshape s' h) Finset.univ : sProp 𝕄) ⊣⊢ junk c v r.set :=
  ⟨(junk_reshape c (v.slice r) h).1.trans (junk_slice c v r).1,
    (junk_slice c v r).2.trans (junk_reshape c (v.slice r) h).2⟩

end

section

variable {nD : Nat} {τ : Topo} {sig : RefSig} {Ix : Type} [DecidableEq Ix]
variable {Val : EltTy → Type} [∀ e, Nonempty (Val e)] {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Γ : PendingWaitsCtx sig Ix}

local notation "𝕄" => MT nD τ sig Ix Val Name U Lvl

variable {Q : α → sProp (MT nD τ sig Ix Val Name U Lvl)}

/-- A load inside a piece. -/
theorem wp_load_slab {cs : CoreSpace} {m : Memref sig c.2.kind cs s e} {r : Rect s} {hl : m.view.LoadsAt r.toLoadRect}
    {k : (r.shape.Idx → Val e) → Prog (TpuEff nD τ sig Val Λ c.2) α}
    {R : Finset s.Idx} {q : PosShare TreeShare} {g : s.Idx → Val e} (hS : r.set ⊆ R) :
    (slab c m.view R q g : sProp 𝕄)
      ⊢ iprop((slab c m.view R q g -∗ wp frame (wpE' defs 𝒱 c bd Γ) E (k fun i => g (r.emb i)) Q)
        -∗ wp frame (wpE' defs 𝒱 c bd Γ) E (.op (.load m r.toLoadRect hl) k) Q) := by
  have hsub : (m.access r).set ⊆ m.view.setOn R := by
    rw [View.set_slice]; exact Finset.map_subset_map.mpr hS
  have hval : (m.access r).read Val (m.view.rep g) = fun i => g (r.emb i) := funext fun i => by
    rw [View.read_apply, show (m.access r).emb i = m.view.emb (r.emb i) from rfl, View.rep_emb, cast_cast, cast_eq]
  have h := wp_load_rect (defs := defs) (Γ := Γ) (Q := Q) (hl := hl) (k := k) (q := q) (f := m.view.rep g) 𝒱 c bd E hsub
  rw [hval] at h
  exact h

/-- A store inside a piece. -/
theorem wp_store_slab {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {R : Finset s.Idx} {g g' : s.Idx → Val e} (hS : r.set ⊆ R)
    (hin : ∀ i, g' (r.emb i) = w i) (hout : ∀ i ∈ R, i ∉ r.set → g' i = g i) :
    (slab c m.view R fullShare g : sProp 𝕄)
      ⊢ iprop((slab c m.view R fullShare g' -∗ wp frame (wpE' defs 𝒱 c bd Γ) E (k ⟨⟩) Q)
        -∗ wp frame (wpE' defs 𝒱 c bd Γ) E (.op (.store m r w Finset.univ hx hm) k) Q) := by
  have hsub : (m.access r).setOn Finset.univ ⊆ m.view.setOn R := by
    rw [View.setOn_univ, View.set_slice]; exact Finset.map_subset_map.mpr hS
  have hval : (m.view.loc c ↦[m.view.setOn R]{fullShare} ((m.access r).write Val (m.view.rep g) w Finset.univ) : sProp 𝕄)
      = slab c m.view R fullShare g' := by
    rw [slab_of]
    refine slab_congr c m.view fun i hi => ?_
    by_cases h : i ∈ r.set
    · rw [← r.map_emb_univ] at h
      obtain ⟨x, -, rfl⟩ := Finset.mem_map.mp h
      rw [hin, View.read_slice_write_emb r _ w (Finset.mem_univ x)]
    · rw [hout i hi h, View.read_slice_write_of_not_mem r _ w Finset.univ (by rwa [r.map_emb_univ]), View.read_rep]
  have h := wp_store (w := w) (defs := defs) (Γ := Γ) (Q := Q) (hx := hx) (hm := hm) (k := k) (f := m.view.rep g) 𝒱 c bd E hsub
  rw [← hval]
  exact h

/-- A store that fills a piece of any contents. -/
theorem wp_store_junk {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {g : s.Idx → Val e} (hin : ∀ i, g (r.emb i) = w i) :
    (junk c m.view r.set : sProp 𝕄)
      ⊢ iprop((slab c m.view r.set fullShare g -∗ wp frame (wpE' defs 𝒱 c bd Γ) E (k ⟨⟩) Q)
        -∗ wp frame (wpE' defs 𝒱 c bd Γ) E (.op (.store m r w Finset.univ hx hm) k) Q) :=
  exists_elim fun g₀ => wp_store_slab 𝒱 c bd E (fun _ h => h) hin (fun i hi h => absurd hi h)

/-- A load of elements of any contents, whose result is not used. -/
theorem wp_load_junk {cs : CoreSpace} {m : Memref sig c.2.kind cs s e} {r : Rect s} {hl : m.view.LoadsAt r.toLoadRect}
    {k : Prog (TpuEff nD τ sig Val Λ c.2) α} {R : Finset s.Idx} (hS : r.set ⊆ R) :
    (junk c m.view R : sProp 𝕄)
      ⊢ iprop((junk c m.view R -∗ wp frame (wpE' defs 𝒱 c bd Γ) E k Q)
        -∗ wp frame (wpE' defs 𝒱 c bd Γ) E (.op (.load m r.toLoadRect hl) fun _ => k) Q) := by
  refine exists_elim fun g => ?_
  iintro H Hk
  iapply (wp_load_slab 𝒱 c bd E hS) $$ H
  iintro H
  iapply Hk
  iapply (junk_intro c m.view g)
  iexact H

end

end Cert.Piece
-- ==== Proof.Star.lean ====
/-
  The separating conjunction of a list of assertions, and its regrouping.
-/
module

public import Idealize.ShloMosaic.Lib.Pipeline.Launch
public import Idealize.ShloMosaic.Lib.Pipeline.Kit
public import Idealize.ShloMosaic.Lib.Tactic

@[expose] public section

noncomputable section

namespace Cert.Piece

open Idealize.ShloMosaic Idealize.ShloMosaic.TcCoe Idealize.SL Idealize.SL.RA Idealize.SL.BI
open scoped Idealize.SL.BI
open Idealize.SL.BI.BIBase Idealize.SL.BI.Laws Idealize.SL.ProofMode
open Idealize.SL.Sem

variable {M : Type} [URA M] {A B : Type}

/-- The conjunction of `Φ` over a list. -/
def star (Φ : A → sProp M) : List A → sProp M
  | [] => BI.emp
  | a :: l => iprop(Φ a ∗ star Φ l)

theorem star_nil (Φ : A → sProp M) : star Φ [] = BI.emp := rfl
theorem star_cons (Φ : A → sProp M) (a : A) (l : List A) : star Φ (a :: l) = iprop(Φ a ∗ star Φ l) := rfl

theorem star_one (Φ : A → sProp M) (a : A) : star Φ [a] ⊣⊢ Φ a := sep_emp (PROP := sProp M)

theorem star_append (Φ : A → sProp M) (l l' : List A) : star Φ (l ++ l') ⊣⊢ iprop(star Φ l ∗ star Φ l') := by
  induction l with
  | nil => exact ⟨(emp_sep (PROP := sProp M)).2, (emp_sep (PROP := sProp M)).1⟩
  | cons a l ih =>
    constructor
    · show iprop(Φ a ∗ star Φ (l ++ l')) ⊢ iprop((Φ a ∗ star Φ l) ∗ star Φ l')
      iintro ⟨Ha, H⟩
      icases ih.1 $$ H with ⟨H1, H2⟩
      isplitl [Ha H1]
      · isplitl [Ha] <;> iassumption
      iexact H2
    · show iprop((Φ a ∗ star Φ l) ∗ star Φ l') ⊢ iprop(Φ a ∗ star Φ (l ++ l'))
      iintro ⟨⟨Ha, H1⟩, H2⟩
      isplitl [Ha]; · iexact Ha
      iapply ih.2
      isplitl [H1] <;> iassumption

theorem star_perm (Φ : A → sProp M) {l l' : List A} (h : l.Perm l') : star Φ l ⊢ star Φ l' := by
  induction h with
  | nil => exact .rfl
  | cons a _ ih => exact sep_mono_right ih
  | swap a b l =>
    show iprop(Φ b ∗ Φ a ∗ star Φ l) ⊢ iprop(Φ a ∗ Φ b ∗ star Φ l)
    iintro ⟨Hb, Ha, H⟩
    isplitl [Ha]; · iexact Ha
    isplitl [Hb] <;> iassumption
  | trans _ _ ih ih' => exact ih.trans ih'

theorem star_map (Φ : A → sProp M) (f : B → A) (l : List B) : star Φ (l.map f) = star (fun b => Φ (f b)) l := by
  induction l with
  | nil => rfl
  | cons a l ih => rw [List.map_cons, star_cons, star_cons, ih]

theorem star_mono {Φ Ψ : A → sProp M} {l : List A} (h : ∀ a ∈ l, Φ a ⊢ Ψ a) : star Φ l ⊢ star Ψ l := by
  induction l with
  | nil => exact .rfl
  | cons a l ih =>
    exact (sep_mono_left (h a List.mem_cons_self)).trans (sep_mono_right (ih fun b hb => h b (List.mem_cons_of_mem a hb)))

theorem star_sep (Φ Ψ : A → sProp M) (l : List A) : star (fun a => iprop(Φ a ∗ Ψ a)) l ⊣⊢ iprop(star Φ l ∗ star Ψ l) := by
  induction l with
  | nil => exact ⟨(emp_sep (PROP := sProp M)).2, (emp_sep (PROP := sProp M)).1⟩
  | cons a l ih =>
    constructor
    · show iprop((Φ a ∗ Ψ a) ∗ star (fun a => iprop(Φ a ∗ Ψ a)) l) ⊢ iprop((Φ a ∗ star Φ l) ∗ (Ψ a ∗ star Ψ l))
      iintro ⟨⟨Ha, Hb⟩, H⟩
      icases ih.1 $$ H with ⟨H1, H2⟩
      isplitl [Ha H1]
      · isplitl [Ha] <;> iassumption
      isplitl [Hb] <;> iassumption
    · show iprop((Φ a ∗ star Φ l) ∗ (Ψ a ∗ star Ψ l)) ⊢ iprop((Φ a ∗ Ψ a) ∗ star (fun a => iprop(Φ a ∗ Ψ a)) l)
      iintro ⟨⟨Ha, H1⟩, ⟨Hb, H2⟩⟩
      isplitl [Ha Hb]
      · isplitl [Ha] <;> iassumption
      iapply ih.2
      isplitl [H1] <;> iassumption

theorem star_bigSepL (Φ : A → sProp M) (l : List A) : bigSepL l Φ = star Φ l := by
  induction l with
  | nil => rfl
  | cons a l ih => rw [bigSepL_cons, ih]; rfl

theorem star_univ [Fintype A] [DecidableEq A] (Φ : A → sProp M) (l : List A) (h : Finset.univ = l.toFinset) (hl : l.Nodup) :
    bigSep Finset.univ Φ = star Φ l := by
  rw [bigSep_univ_eq_bigSepL l h hl, star_bigSepL]

theorem star_flatMap (Φ : A → sProp M) (f : B → List A) (l : List B) : star Φ (l.flatMap f) ⊢ star (fun b => star Φ (f b)) l := by
  induction l with
  | nil => exact .rfl
  | cons b l ih =>
    rw [List.flatMap_cons]
    exact (star_append Φ _ _).1.trans (sep_mono_right ih)

/-- A persistent fact at every element. -/
theorem star_with {R : sProp M} [BI.Persistent R] {Φ Ψ : A → sProp M} {l : List A} (h : ∀ a, iprop(R ∗ Φ a) ⊢ Ψ a) :
    iprop(R ∗ star Φ l) ⊢ star Ψ l := by
  induction l with
  | nil => rw [star_nil, star_nil]; iintro ⟨-, H⟩; iexact H
  | cons a l ih =>
    rw [star_cons, star_cons]
    iintro ⟨#HR, H1, H2⟩
    isplitl [H1]
    · iapply (h a); isplitr; · iexact HR
      iexact H1
    · iapply ih; isplitr; · iexact HR
      iexact H2

end Cert.Piece
-- ==== Proof.Proto.lean ====
/-
  The protocol of the copies: one cell per semaphore, what each cell's completion hands over, what
  each device owes and in which order it may wait.
-/
module

public import proofs.«01_k».proof.Proof.Values
public import proofs.«01_k».proof.Proof.Piece
public import proofs.«01_k».proof.Proof.Star

@[expose] public section

noncomputable section

namespace Cert.KernelIdeal.Ring

open Cert.KernelIdeal Cert.KernelIdeal.Gen Cert.Piece
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ring's resource: rounds with two duty names. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The copies, enumerated -/

theorem sends_nodup : sends.Nodup := by decide
theorem mem_sends (k : Cp) : k ∈ sends := by
  rcases k with ⟨f, p, s⟩ | ⟨b, p⟩ | ⟨b, p⟩ | ⟨b, p, s⟩ | ⟨b, p⟩
  · cases f <;> (revert p s; decide)
  · cases b <;> (revert p; decide)
  · cases b <;> (revert p; decide)
  · cases b <;> (revert p s; decide)
  · cases b <;> (revert p; decide)

instance : Fintype Cp := ⟨⟨sends, sends_nodup⟩, mem_sends⟩

/-- A copy's place in the firing order. -/
def rank (k : Cp) : ℕ := sends.idxOf k

/-! ## The cells -/

/-- The cells of a device: the barrier, and per copy its arrival (`true`) and departure (`false`). -/
abbrev CI := Option (Bool × Cp)

/-- The semaphore of an arrival or a departure. -/
def dsem (i : Bool × Cp) : DmaSem sig := bif i.1 then rsem i.2 else ssem i.2

/-- All arrivals and departures. -/
def allD : List (Bool × Cp) := sends.map (true, ·) ++ sends.map (false, ·)

theorem mem_allD (i : Bool × Cp) : i ∈ allD := by
  rcases i with ⟨_ | _, k⟩
  · exact List.mem_append_right _ (List.mem_map_of_mem (mem_sends k))
  · exact List.mem_append_left _ (List.mem_map_of_mem (mem_sends k))

/-- Which arrival or departure a semaphore belongs to. -/
def decode (q : DmaSem sig) : Option (Bool × Cp) := allD.find? fun i => decide (dsem i = q)

set_option maxRecDepth 20000 in
theorem decode_all : ∀ i ∈ allD, decode (dsem i) = some i := by decide +kernel

theorem decode_dsem (i : Bool × Cp) : decode (dsem i) = some i := decode_all i (mem_allD i)

/-- The semaphore of a cell. -/
def csem : CI → SemLoc sig
  | none => .reg barSem
  | some i => .dma (dsem i)

/-- Which cell a semaphore is. -/
def cid : SemLoc sig → Option CI
  | .reg s => if s = barSem then some none else none
  | .dma q => (decode q).map some

theorem cid_csem (i : CI) : cid (csem i) = some i := by
  rcases i with _ | i
  · show (if barSem = barSem then some none else none) = _
    exact if_pos rfl
  · show (decode (dsem i)).map some = _
    rw [decode_dsem]; rfl

theorem csem_injective : Function.Injective csem := fun i j h => by
  have := congrArg cid h
  rw [cid_csem, cid_csem] at this
  exact Option.some.inj this

abbrev kcell (ci : Dev nD × CI) : GSem nD τ sig := ((ci.1 : Thread nD τ), csem ci.2)
abbrev barCell (c : Dev nD) : GSem nD τ sig := ((c : Thread nD τ), .reg barSem)
abbrev rcell (k : Cp) (c : Dev nD) : GSem nD τ sig := ((c : Thread nD τ), .dma (rsem k))
abbrev scell (k : Cp) (c : Dev nD) : GSem nD τ sig := ((c : Thread nD τ), .dma (ssem k))

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

theorem cid_bar : cid (.reg barSem) = some none := cid_csem none
theorem cid_rsem (k : Cp) : cid (.dma (rsem k)) = some (some (true, k)) := cid_csem (some (true, k))
theorem cid_ssem (k : Cp) : cid (.dma (ssem k)) = some (some (false, k)) := cid_csem (some (false, k))

/-- The units a copy credits. -/
abbrev NK (k : Cp) : ℕ := (dst k).view.dmaCredit
theorem sh_pos (k : Cp) : 0 < k.sh.numel := by
  have h1 : 0 < S256x256.numel := by decide
  have h2 : 0 < S256x512.numel := by decide
  cases k
  exacts [h1, h1, h2, h2, h1]
theorem NK_pos (k : Cp) : 0 < NK k := View.dmaCredit_pos _ (sh_pos k)

/-! ## What the cells hand over -/

/-- The share of its source a copy takes. -/
def sq : Cp → PosShare TreeShare
  | .rs _ _ _ => fullShare
  | .rl _ _ => fullShare
  | .own true _ => fullShare.left.left
  | .own false _ => fullShare.left.right
  | .ag _ _ _ => fullShare.left
  | .last _ _ => fullShare.left

variable (I : Ins F)

/-- The source of copy `k`, on the sender. -/
def sndPay (k : Cp) (c : Dev nD) : sProp 𝕄 := slab (Dev.tc c) (src k).view Finset.univ (sq k) (VK I k c)
/-- The arrived copy `k`, on the receiver. -/
def rcvPay (k : Cp) (c : Dev nD) : sProp 𝕄 := slab (Dev.tc c) (dst k).view Finset.univ fullShare (VK I k (frm k c))
/-- Where copy `k` of device `c` lands. -/
def land (k : Cp) (c : Dev nD) : sProp 𝕄 := junk (Dev.tc (tgt k c)) (dst k).view Finset.univ

/-- The copies of a direction. -/
def sendsB (b : Bool) : List Cp := sends.filter fun k => k.right == b

/-- What the neighbour in a direction hands over at the barrier: where that direction's copies land. -/
def barPay (b : Bool) (c : Dev nD) : sProp 𝕄 := star (fun k => land k c) (sendsB b)

instance slab_storable {s : Shape} {e : EltTy} (c : Thread nD τ) {sp : Space} (v : View sig c.2.kind sp s e) (R : Finset s.Idx)
    (q : PosShare TreeShare) (g : s.Idx → Elt F e) : BI.Storable (upEmb : UEmb _ 𝕄) (slab c v R q g : sProp 𝕄) := by
  unfold slab; infer_instance
instance land_storable (k : Cp) (c : Dev nD) : BI.Storable (upEmb : UEmb _ 𝕄) (land (F := F) k c) := by
  unfold land junk; infer_instance
instance star_storable {A : Type} (Φ : A → sProp 𝕄) [∀ a, BI.Storable (upEmb : UEmb _ 𝕄) (Φ a)] (l : List A) :
    BI.Storable (upEmb : UEmb _ 𝕄) (star Φ l) := by
  induction l with
  | nil => exact BI.Storable.emp _
  | cons a l ih => rw [star_cons]; infer_instance

/-- One round per cell: two units at the barrier, the copy's credit elsewhere. -/
def Rd : Rounds.Schedule (GSem nD τ sig) Bool 𝕄 where
  duties g r := if r = 0 ∧ g.1.2 = .tc then
      match cid g.2 with
      | some none => Finset.univ
      | some (some _) => {false}
      | none => ∅
    else ∅
  unitless _ := False
  amount g _ _ := match cid g.2 with
    | some (some (_, k)) => NK k
    | _ => 1
  payload g _ d := match cid g.2 with
    | some none => barPay d g.1.1
    | some (some (true, k)) => rcvPay I k g.1.1
    | some (some (false, k)) => sndPay I k g.1.1
    | none => iprop(emp)
  amount_pos g _ _ _ := by
    split
    · exact NK_pos _
    · exact Nat.one_pos

instance Rd_storable (g : GSem nD τ sig) (r : ℕ) (d : Bool) : BI.Storable (upEmb : UEmb _ 𝕄) ((Rd I).payload g r d) := by
  show BI.Storable upEmb (match cid g.2 with
    | some none => barPay d g.1.1
    | some (some (true, k)) => rcvPay I k g.1.1
    | some (some (false, k)) => sndPay I k g.1.1
    | none => iprop(emp))
  unfold barPay rcvPay sndPay
  split <;> infer_instance

section sched

variable (c : Dev nD) (k : Cp)

theorem duties_bar : (Rd I).duties (barCell c) 0 = Finset.univ := by
  dsimp only [Rd]; rw [if_pos ⟨rfl, rfl⟩, cid_bar]
theorem duties_recv : (Rd I).duties (rcell k c) 0 = {false} := by
  dsimp only [Rd]; rw [if_pos ⟨rfl, rfl⟩, cid_rsem]
theorem duties_send : (Rd I).duties (scell k c) 0 = {false} := by
  dsimp only [Rd]; rw [if_pos ⟨rfl, rfl⟩, cid_ssem]
theorem duties_later (g : GSem nD τ sig) : ∀ r, 1 ≤ r → (Rd I).duties g r = ∅ :=
  fun r hr => by dsimp only [Rd]; rw [if_neg fun h => by omega]

theorem amount_bar (d : Bool) : (Rd I).amount (barCell c) 0 d = 1 := by dsimp only [Rd]; rw [cid_bar]
theorem amount_recv (d : Bool) : (Rd I).amount (rcell k c) 0 d = NK k := by dsimp only [Rd]; rw [cid_rsem]
theorem amount_send (d : Bool) : (Rd I).amount (scell k c) 0 d = NK k := by dsimp only [Rd]; rw [cid_ssem]

theorem expect_bar : (Rd I).expect (barCell c) 0 = 2 := by
  unfold Schedule.expect Schedule.amountOf
  rw [duties_bar, Finset.sum_congr rfl fun d _ => amount_bar I c d, Finset.sum_const, Finset.card_univ, Fintype.card_bool, smul_eq_mul]
theorem expect_recv : (Rd I).expect (rcell k c) 0 = NK k := by
  unfold Schedule.expect Schedule.amountOf; rw [duties_recv, Finset.sum_singleton, amount_recv]
theorem expect_send : (Rd I).expect (scell k c) 0 = NK k := by
  unfold Schedule.expect Schedule.amountOf; rw [duties_send, Finset.sum_singleton, amount_send]

theorem payload_bar (d : Bool) : (Rd I).payload (barCell c) 0 d = barPay d c := by dsimp only [Rd]; rw [cid_bar]
theorem payload_recv (d : Bool) : (Rd I).payload (rcell k c) 0 d = rcvPay I k c := by dsimp only [Rd]; rw [cid_rsem]
theorem payload_send (d : Bool) : (Rd I).payload (scell k c) 0 d = sndPay I k c := by dsimp only [Rd]; rw [cid_ssem]

theorem rest_bar : bigSep ((Rd I).duties (barCell c) 0 \ ∅) (fun d => (Rd I).payload (barCell c) 0 d)
    = iprop(barPay false c ∗ barPay true c) := by
  rw [Finset.sdiff_empty, duties_bar, bigSep_univ_eq_bigSepL [false, true] (by decide) (by decide), bigSepL_cons_cons, bigSepL_singleton,
    payload_bar, payload_bar]
  rfl
theorem rest_recv : bigSep ((Rd I).duties (rcell k c) 0 \ ∅) (fun d => (Rd I).payload (rcell k c) 0 d) = rcvPay I k c := by
  rw [Finset.sdiff_empty, duties_recv, bigSep_singleton, payload_recv]
theorem rest_send : bigSep ((Rd I).duties (scell k c) 0 \ ∅) (fun d => (Rd I).payload (scell k c) 0 d) = sndPay I k c := by
  rw [Finset.sdiff_empty, duties_send, bigSep_singleton, payload_send]

end sched

/-! ## What is owed -/

/-- The arrivals a device owes for the copies `l` it has not fired. -/
def owedL (c : Dev nD) : List Cp → CellTallies nD τ sig Unit
  | [] => 0
  | k :: l => owedL c l + tallyAt (rcell k (tgt k c)) () (NK k)

/-- What a device owes at launch: the arrivals, and a unit to each neighbour's barrier. -/
def O₁ (c : Dev nD) : CellTallies nD τ sig Unit := owedL c sends + tallyAt (barCell (devR c)) () 1
def O₀ (c : Dev nD) : CellTallies nD τ sig Unit := O₁ c + tallyAt (barCell (devL c)) () 1

def L (g : GSem nD τ sig) : Finset Unit := if g.1.2 = .tc then {()} else ∅
/-- The barrier first, then the arrivals in firing order. -/
def lv (g : GSem nD τ sig) (_ : Unit) : ℕ := match cid g.2 with
  | some none => 1
  | some (some (true, k)) => rank k + 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [cid_bar]
theorem lv_recv (k : Cp) (c : Dev nD) : lv (rcell k c) () = rank k + 2 := by dsimp only [lv]; rw [cid_rsem]

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem owedL_pos {c : Dev nD} {l : List Cp} {g : GSem nD τ sig} {u : Unit} (h : 0 < owedL c l g u) :
    ∃ k ∈ l, g = rcell k (tgt k c) := by
  induction l with
  | nil => exact absurd h (Nat.lt_irrefl 0)
  | cons k l ih =>
    unfold owedL at h
    rw [Pi.add_apply, Finsupp.add_apply] at h
    by_cases h' : 0 < owedL c l g u
    · obtain ⟨k', hk, e⟩ := ih h'; exact ⟨k', List.mem_cons_of_mem _ hk, e⟩
    · exact ⟨k, List.mem_cons_self, tally_pos (n := NK k) (u := u) (by omega)⟩

theorem O₀_pos {c : Dev nD} {g : GSem nD τ sig} {u : Unit} (h : 0 < O₀ c g u) :
    (∃ k, g = rcell k (tgt k c)) ∨ ∃ c', g = barCell c' := by
  unfold O₀ O₁ at h
  rw [Pi.add_apply, Finsupp.add_apply, Pi.add_apply, Finsupp.add_apply] at h
  by_cases h1 : 0 < owedL c sends g u
  · obtain ⟨k, -, e⟩ := owedL_pos h1; exact .inl ⟨k, e⟩
  by_cases h2 : 0 < (tallyAt (barCell (devR c)) () 1 : CellTallies nD τ sig Unit) g u
  · exact .inr ⟨_, tally_pos h2⟩
  · exact .inr ⟨devL c, tally_pos (n := 1) (u := u) (by omega)⟩

/-- A device may wait on a semaphore that is no cell of the ring whatever it owes. -/
theorem mayWait_stage (c : Dev nD) (q : DmaSem sig) (hq : cid (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨c', rfl⟩ <;> exact Finset.mem_singleton_self _)
      (fun p hp => by rw [Finset.mem_singleton.mp hp]; dsimp only [lv]; rw [hq])
      (fun g u hg => by
        rcases O₀_pos hg with ⟨k, rfl⟩ | ⟨c', rfl⟩
        · rw [lv_recv]; omega
        · rw [lv_bar]; omega)
  · rw [MayWait_zero]; iintro -; iempintro

/-- At the barrier a device owes arrivals only. -/
theorem mayWait_bar (c : Dev nD) : (levAts L lv : sProp 𝕄) ⊢ MayWait (c : Thread nD τ) (.reg barSem) () (owedL c sends) :=
  MayOwe.of_cut (L := L) (lev := lv) 1 (fun p hp => by rw [Finset.mem_singleton.mp hp, L_tc]; exact Finset.mem_singleton_self _)
    (fun g u hg => by obtain ⟨k, -, rfl⟩ := owedL_pos hg; exact Finset.mem_singleton_self _)
    (fun p hp => by rw [Finset.mem_singleton.mp hp]; exact (lv_bar c).le)
    (fun g u hg => by obtain ⟨k, -, rfl⟩ := owedL_pos hg; rw [lv_recv]; omega)

/-- An arrival may be waited for when only later copies are still to be fired. -/
theorem mayWait_recv (c : Dev nD) (k : Cp) (l : List Cp) (hl : ∀ k' ∈ l, rank k < rank k') :
    (levAts L lv : sProp 𝕄) ⊢ MayWait (c : Thread nD τ) (.dma (rsem k)) () (owedL c l) :=
  MayOwe.of_cut (L := L) (lev := lv) (rank k + 2) (fun p hp => by rw [Finset.mem_singleton.mp hp, L_tc]; exact Finset.mem_singleton_self _)
    (fun g u hg => by obtain ⟨k, -, rfl⟩ := owedL_pos hg; exact Finset.mem_singleton_self _)
    (fun p hp => by rw [Finset.mem_singleton.mp hp]; exact (lv_recv k c).le)
    (fun g u hg => by obtain ⟨k', hk, rfl⟩ := owedL_pos hg; rw [lv_recv]; have := hl k' hk; omega)

end Cert.KernelIdeal.Ring
-- ==== Proof.Geo.lean ====
/-
  Which indices each piece of a buffer holds, the buffers split into their pieces, and what the
  copies carry as pieces of the buffers.
-/
module

public import proofs.«01_k».proof.Proof.Proto

@[expose] public section

noncomputable section

namespace Cert.Piece

open Idealize.ShloMosaic Idealize.ShloMosaic.TcCoe Idealize.SL Idealize.SL.RA Idealize.SL.BI
open scoped Idealize.SL.BI
open Idealize.SL.BI.BIBase Idealize.SL.BI.Laws Idealize.SL.ProofMode
open Idealize.SL.Sem
open PCS URA Auth

theorem mem_unit3 {a b c x y z l m n : ℕ} {inb} {i : (⟨3, ![a, b, c]⟩ : Shape).Idx} :
    i ∈ (Rect.unit (s := ⟨3, ![a, b, c]⟩) ![x, y, z] ![l, m, n] inb).set
      ↔ (x ≤ (i 0).val ∧ (i 0).val < x + l) ∧ (y ≤ (i 1).val ∧ (i 1).val < y + m) ∧ (z ≤ (i 2).val ∧ (i 2).val < z + n) := by
  rw [Rect.mem_set_unit]
  exact ⟨fun h => ⟨h 0, h 1, h 2⟩, fun h k => match k with | 0 => h.1 | 1 => h.2.1 | 2 => h.2.2⟩

theorem mem_unit2 {a b x y l m : ℕ} {inb} {i : (⟨2, ![a, b]⟩ : Shape).Idx} :
    i ∈ (Rect.unit (s := ⟨2, ![a, b]⟩) ![x, y] ![l, m] inb).set
      ↔ (x ≤ (i 0).val ∧ (i 0).val < x + l) ∧ (y ≤ (i 1).val ∧ (i 1).val < y + m) := by
  rw [Rect.mem_set_unit]
  exact ⟨fun h => ⟨h 0, h 1⟩, fun h k => match k with | 0 => h.1 | 1 => h.2⟩

section

variable {nD : Nat} {τ : Topo} {sig : RefSig} {Ix : Type} [DecidableEq Ix]
variable {Val : EltTy → Type} [∀ e, Nonempty (Val e)] {Name : Type} [DecidableEq Name]
variable {U : Type} [URA U]
variable {Lvl : Type}
variable {s : Shape} {e : EltTy} {A : Type} [DecidableEq A]

local notation "𝕄" => MT nD τ sig Ix Val Name U Lvl

variable (c : Thread nD τ) {sp : Space} (v : View sig c.2.kind sp s e) (cls : s.Idx → A) (S : A → Finset s.Idx)

theorem slab_empty (q : PosShare TreeShare) (g : s.Idx → Val e) : (slab c v ∅ q g : sProp 𝕄) = BI.emp := by
  unfold slab; rw [show v.setOn ∅ = ∅ from Finset.map_empty _]; exact pointsTo_empty

/-- A buffer's elements, divided by a classification of their indices. -/
theorem slab_split (hS : ∀ a i, i ∈ S a ↔ cls i = a) (q : PosShare TreeShare) (g : s.Idx → Val e) {l : List A} (hl : l.Nodup)
    {R : Finset s.Idx} (hR : ∀ i, i ∈ R ↔ cls i ∈ l) :
    (slab c v R q g : sProp 𝕄) ⊣⊢ star (fun a => slab c v (S a) q g) l := by
  induction l generalizing R with
  | nil =>
    rw [show R = ∅ from Finset.eq_empty_of_forall_notMem fun i hi => List.not_mem_nil ((hR i).mp hi), slab_empty]
    exact ⟨.rfl, .rfl⟩
  | cons a l ih =>
    obtain ⟨hn, hl'⟩ := List.nodup_cons.mp hl
    have e : R = S a ∪ R.filter fun i => cls i ∈ l := by
      ext i
      rw [Finset.mem_union, Finset.mem_filter, hS, hR, List.mem_cons]
      exact ⟨fun h => h.imp_right fun h' => ⟨.inr h', h'⟩, fun h => h.imp_right fun h' => h'.2⟩
    have hd : Disjoint (S a) (R.filter fun i => cls i ∈ l) := Finset.disjoint_left.mpr fun i hi h' =>
      hn (((hS a i).mp hi) ▸ (Finset.mem_filter.mp h').2)
    have hR' : ∀ i, i ∈ (R.filter fun i => cls i ∈ l) ↔ cls i ∈ l := fun i => by
      rw [Finset.mem_filter, hR]; exact ⟨fun h => h.2, fun h => ⟨List.mem_cons_of_mem _ h, h⟩⟩
    have h1 := slab_union (Ix := Ix) (Name := Name) (U := U) (Lvl := Lvl) c v hd q g
    have h2 := ih hl' hR'
    rw [← e] at h1
    exact ⟨h1.1.trans (sep_mono_right h2.1), (sep_mono_right h2.2).trans h1.2⟩

theorem junk_empty_intro : (BI.emp : sProp 𝕄) ⊢ junk c v ∅ := by
  have g : s.Idx → Val e := fun _ => Classical.choice inferInstance
  rw [← slab_empty (Ix := Ix) (Name := Name) (U := U) (Lvl := Lvl) c v fullShare g]
  exact junk_intro (Val := Val) c v g

theorem junk_split (hS : ∀ a i, i ∈ S a ↔ cls i = a) {l : List A} (hl : l.Nodup)
    {R : Finset s.Idx} (hR : ∀ i, i ∈ R ↔ cls i ∈ l) :
    (junk c v R : sProp 𝕄) ⊢ star (fun a => junk c v (S a)) l :=
  exists_elim fun g => (slab_split c v cls S hS fullShare g hl hR).1.trans (star_mono fun a _ => junk_intro c v g)

theorem junk_merge (hS : ∀ a i, i ∈ S a ↔ cls i = a) {l : List A} (hl : l.Nodup)
    {R : Finset s.Idx} (hR : ∀ i, i ∈ R ↔ cls i ∈ l) :
    (star (fun a => junk c v (S a)) l : sProp 𝕄) ⊢ junk c v R := by
  induction l generalizing R with
  | nil =>
    rw [show R = ∅ from Finset.eq_empty_of_forall_notMem fun i hi => List.not_mem_nil ((hR i).mp hi)]
    exact junk_empty_intro (Val := Val) (Ix := Ix) (Name := Name) (U := U) (Lvl := Lvl) c v
  | cons a l ih =>
    obtain ⟨hn, hl'⟩ := List.nodup_cons.mp hl
    have e : R = S a ∪ R.filter fun i => cls i ∈ l := by
      ext i
      rw [Finset.mem_union, Finset.mem_filter, hS, hR, List.mem_cons]
      exact ⟨fun h => h.imp_right fun h' => ⟨.inr h', h'⟩, fun h => h.imp_right fun h' => h'.2⟩
    have hd : Disjoint (S a) (R.filter fun i => cls i ∈ l) := Finset.disjoint_left.mpr fun i hi h' =>
      hn (((hS a i).mp hi) ▸ (Finset.mem_filter.mp h').2)
    have hR' : ∀ i, i ∈ (R.filter fun i => cls i ∈ l) ↔ cls i ∈ l := fun i => by
      rw [Finset.mem_filter, hR]; exact ⟨fun h => h.2, fun h => ⟨List.mem_cons_of_mem _ h, h⟩⟩
    have h1 := junk_join (Val := Val) (Ix := Ix) (Name := Name) (U := U) (Lvl := Lvl) c v hd
    rw [← e] at h1
    exact (sep_mono_right (ih hl' hR')).trans h1

/-- Two shares of the same elements, given up to one. -/
theorem junk_shares {R : Finset s.Idx} {q₁ q₂ : PosShare TreeShare} (h : fullShare ∈ q₁ ·? q₂) (g : s.Idx → Val e) :
    iprop(slab c v R q₁ g ∗ slab c v R q₂ g) ⊢ (junk c v R : sProp 𝕄) :=
  (slab_share c v h g).2.trans (junk_intro c v g)

end

end Cert.Piece

namespace Cert.KernelIdeal.Ring

open Cert.KernelIdeal Cert.KernelIdeal.Gen Cert.Piece
open Idealize.ShloMosaic Idealize.ShloMosaic.ValueIdx Idealize.ShloMosaic.TcCoe Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Membership -/

theorem mem_pc (f : Fam) (s : Nat) (p : Fin 2) (hs : s < f.n) (i : (RS f.n).Idx) :
    i ∈ (pcRect f s p hs).set ↔ (i 0).val = s ∧ (i 1).val / 256 = p.val := by
  have h2 := (i 2).isLt; change (i 2).val < 256 at h2
  refine (mem_unit3 (x := s) (y := 256 * p.val) (z := 0) (l := 1) (m := 256) (n := 256)).trans ?_
  omega
theorem mem_slot (f : Fam) (s : Nat) (hs : s < f.n) (i : (RS f.n).Idx) :
    i ∈ (slotRect f s hs).set ↔ (i 0).val = s := by
  have h1 := (i 1).isLt; change (i 1).val < 512 at h1
  have h2 := (i 2).isLt; change (i 2).val < 256 at h2
  refine (mem_unit3 (x := s) (y := 0) (z := 0) (l := 1) (m := 512) (n := 256)).trans ?_
  omega
theorem mem_gb (s : Fin 3) (p : Fin 2) (i : S4x512x512.Idx) :
    i ∈ (gbRect s p).set ↔ (i 0).val = s.val ∧ (i 1).val / 256 = p.val := by
  have h2 := (i 2).isLt; change (i 2).val < 512 at h2
  refine (mem_unit3 (x := s.val) (y := 256 * p.val) (z := 0) (l := 1) (m := 256) (n := 512)).trans ?_
  omega
theorem mem_gh (s : Fin 4) (p h : Fin 2) (i : S4x512x512.Idx) :
    i ∈ (ghRect s p h).set ↔ (i 0).val = s.val ∧ (i 1).val / 256 = p.val ∧ (i 2).val / 256 = h.val := by
  refine (mem_unit3 (x := s.val) (y := 256 * p.val) (z := 256 * h.val) (l := 1) (m := 256) (n := 256)).trans ?_
  omega
theorem mem_gc (s : Fin 4) (h : Fin 2) (i : S4x512x512.Idx) :
    i ∈ (gcRect s h).set ↔ (i 0).val = s.val ∧ (i 2).val / 256 = h.val := by
  have h1 := (i 1).isLt; change (i 1).val < 512 at h1
  refine (mem_unit3 (x := s.val) (y := 0) (z := 256 * h.val) (l := 1) (m := 512) (n := 256)).trans ?_
  omega
theorem mem_p (o : Fin 8) (i : S8x512x512.Idx) : i ∈ (pRect o).set ↔ (i 0).val = o.val := by
  have h1 := (i 1).isLt; change (i 1).val < 512 at h1
  have h2 := (i 2).isLt; change (i 2).val < 512 at h2
  refine (mem_unit3 (x := o.val) (y := 0) (z := 0) (l := 1) (m := 512) (n := 512)).trans ?_
  omega
theorem mem_ob (p : Fin 2) (i : S512x512.Idx) : i ∈ (obRect p).set ↔ (i 0).val / 256 = p.val := by
  have h1 := (i 1).isLt; change (i 1).val < 512 at h1
  refine (mem_unit2 (x := 256 * p.val) (y := 0) (l := 256) (m := 512)).trans ?_
  omega
theorem mem_o (p h : Fin 2) (i : S512x512.Idx) :
    i ∈ (oRect p h).set ↔ (i 0).val / 256 = p.val ∧ (i 1).val / 256 = h.val := by
  refine (mem_unit2 (x := 256 * p.val) (y := 256 * h.val) (l := 256) (m := 256)).trans ?_
  omega

theorem lt2 (p : Fin 2) : p.val < 2 := p.isLt

theorem slot_eq (f : Fam) : (slotRect f f.seed (by cases f <;> decide)).set
    = (pcRect f f.seed 0 (by cases f <;> decide)).set ∪ (pcRect f f.seed 1 (by cases f <;> decide)).set := by
  ext i
  have h1 := (i 1).isLt; change (i 1).val < 512 at h1
  rw [Finset.mem_union, mem_slot, mem_pc, mem_pc]
  show _ ↔ (_ ∧ _ = 0) ∨ (_ ∧ _ = 1)
  omega
theorem slot_disj (f : Fam) : Disjoint (pcRect f f.seed 0 (by cases f <;> decide)).set (pcRect f f.seed 1 (by cases f <;> decide)).set :=
  Finset.disjoint_left.mpr fun i h h' => by
    have a := ((mem_pc _ _ _ _ _).mp h).2
    have b := ((mem_pc _ _ _ _ _).mp h').2
    change _ = 0 at a; change _ = 1 at b; omega
theorem ob_eq (p : Fin 2) : (obRect p).set = (oRect p 0).set ∪ (oRect p 1).set := by
  ext i
  have h1 := (i 1).isLt; change (i 1).val < 512 at h1
  rw [Finset.mem_union, mem_ob, mem_o, mem_o]
  show _ ↔ (_ ∧ _ = 0) ∨ (_ ∧ _ = 1)
  omega
theorem ob_disj (p : Fin 2) : Disjoint (oRect p 0).set (oRect p 1).set :=
  Finset.disjoint_left.mpr fun i h h' => by
    have a := ((mem_o _ _ _).mp h).2
    have b := ((mem_o _ _ _).mp h').2
    change _ = 0 at a; change _ = 1 at b; omega
theorem oAll_eq : (Finset.univ : Finset S512x512.Idx) = (obRect 0).set ∪ (obRect 1).set := by
  ext i
  have h0 := (i 0).isLt; change (i 0).val < 512 at h0
  rw [Finset.mem_union, mem_ob, mem_ob]
  show _ ↔ _ = 0 ∨ _ = 1
  simp only [Finset.mem_univ, true_iff]
  omega
theorem oAll_disj : Disjoint (obRect 0).set (obRect 1).set :=
  Finset.disjoint_left.mpr fun i h h' => by
    have a := (mem_ob _ _).mp h
    have b := (mem_ob _ _).mp h'
    change _ = 0 at a; change _ = 1 at b; omega
theorem gb_disj (s : Fin 3) : Disjoint (gbRect s 0).set (gbRect s 1).set :=
  Finset.disjoint_left.mpr fun i h h' => by
    have a := ((mem_gb _ _ _).mp h).2
    have b := ((mem_gb _ _ _).mp h').2
    change _ = 0 at a; change _ = 1 at b; omega
theorem gc_sub (s : Fin 3) (h : Fin 2) : (gcRect s.castSucc h).set ⊆ (gbRect s 0).set ∪ (gbRect s 1).set := fun i hi => by
  have h1 := (i 1).isLt; change (i 1).val < 512 at h1
  have a := ((mem_gc _ _ _).mp hi).1
  rw [Finset.mem_union, mem_gb, mem_gb]
  change (i 0).val = s.val at a
  show (_ ∧ _ = 0) ∨ (_ ∧ _ = 1)
  omega
theorem gh_disj (s : Fin 4) (h : Fin 2) : Disjoint (ghRect s 0 h).set (ghRect s 1 h).set :=
  Finset.disjoint_left.mpr fun i h h' => by
    have a := ((mem_gh _ _ _ _).mp h).2.1
    have b := ((mem_gh _ _ _ _).mp h').2.1
    change _ = 0 at a; change _ = 1 at b; omega
theorem gc3_sub (h : Fin 2) : (gcRect 3 h).set ⊆ (ghRect 3 0 h).set ∪ (ghRect 3 1 h).set := fun i hi => by
  have h1 := (i 1).isLt; change (i 1).val < 512 at h1
  have a := (mem_gc _ _ _).mp hi
  rw [Finset.mem_union, mem_gh, mem_gh]
  show (_ ∧ _ = 0 ∧ _) ∨ (_ ∧ _ = 1 ∧ _)
  omega
/-- The column half a direction's last copy leaves. -/
abbrev rhalf : Bool → Fin 2 | true => 1 | false => 0
theorem gb2_eq (b : Bool) (p : Fin 2) : (gbRect 2 p).set = (ghRect 2 p (lhalf b)).set ∪ (ghRect 2 p (rhalf b)).set := by
  ext i
  have h2 := (i 2).isLt; change (i 2).val < 512 at h2
  rw [Finset.mem_union, mem_gb, mem_gh, mem_gh]
  cases b
  · show (_ = 2 ∧ _) ↔ (_ = 2 ∧ _ ∧ _ = 1) ∨ (_ = 2 ∧ _ ∧ _ = 0)
    omega
  · show (_ = 2 ∧ _) ↔ (_ = 2 ∧ _ ∧ _ = 0) ∨ (_ = 2 ∧ _ ∧ _ = 1)
    omega
theorem gb2_disj (b : Bool) (p : Fin 2) : Disjoint (ghRect 2 p (lhalf b)).set (ghRect 2 p (rhalf b)).set :=
  Finset.disjoint_left.mpr fun i h h' => by
    have a := ((mem_gh _ _ _ _).mp h).2.2
    have b' := ((mem_gh _ _ _ _).mp h').2.2
    cases b
    · change _ = 1 at a; change _ = 0 at b'; omega
    · change _ = 0 at a; change _ = 1 at b'; omega

/-! ## What the copies carry, as pieces of the buffers -/

variable (I : Ins F) (c : Dev nD)

theorem slab_sq {n m b a' b' : ℕ} {sp : Space} (v : View sig (Dev.tc c : Thread nD τ).2.kind sp ⟨3, ![n, m, b]⟩ .bf16)
    (off : Fin 3 → ℕ) (inb) (h : (⟨2, ![a', b']⟩ : Shape).numel = (⟨3, ![1, a', b']⟩ : Shape).numel)
    (q : PosShare TreeShare) (g : (⟨3, ![n, m, b]⟩ : Shape).Idx → Elt F .bf16) (g' : (⟨2, ![a', b']⟩ : Shape).Idx → Elt F .bf16)
    (hg : ∀ i : (⟨2, ![a', b']⟩ : Shape).Idx,
      g ((Rect.unit (s := ⟨3, ![n, m, b]⟩) off ![1, a', b'] inb).emb (ix3 (0 : Fin 1) (i 0) (i 1))) = g' i) :
    (slab (Dev.tc c) ((v.slice (Rect.unit (s := ⟨3, ![n, m, b]⟩) off ![1, a', b'] inb)).reshape ⟨2, ![a', b']⟩ h) Finset.univ q g' : sProp 𝕄)
      = slab (Dev.tc c) v (Rect.unit (s := ⟨3, ![n, m, b]⟩) off ![1, a', b'] inb).set q g := by
  rw [← slab_squeeze (Dev.tc c) v _ h q g]
  refine slab_congr _ _ fun i _ => ?_
  rw [← hg i]
  obtain ⟨x, y, rfl⟩ : ∃ (x : Fin a') (y : Fin b'), i = ix2 x y := ⟨i 0, i 1, idx2_ext _ _ rfl rfl⟩
  rw [show Shape.reshapeEquiv h (ix2 x y) = ix3 (0 : Fin 1) x y from reshapeEquiv_ix2_1ab h x y]
  rfl

theorem snd_rs (f : Fam) (p : Fin 2) (s : Fin 3) : sndPay I (.rs f p s) c
    = slab (Dev.tc c) (buf f).view (pcRect f (srcSlot f s) p (srcSlot_lt f s)).set fullShare (VS I f c) :=
  slab_sq c (buf f).view _ _ _ _ _ _ (rs_src_val I c f p s)
theorem snd_rl (b : Bool) (p : Fin 2) : sndPay I (.rl b p) c
    = slab (Dev.tc c) (buf (lfam b)).view (pcRect (lfam b) 2 p (l2_lt b)).set fullShare (VS I (lfam b) c) :=
  slab_sq c (buf (lfam b)).view _ _ _ _ _ _ (rl_src_val I c b p)
theorem snd_own (b : Bool) (p : Fin 2) : sndPay I (.own b p) c
    = slab (Dev.tc c) obuf.view (obRect p).set (sq (.own b p)) (OV I c) := by
  unfold sndPay
  rw [← slab_slice]
  exact slab_congr _ _ fun i _ => (own_src_val I c b p i).symm
theorem snd_ag (b : Bool) (p : Fin 2) (s : Fin 2) : sndPay I (.ag b p s) c
    = slab (Dev.tc c) (gbuf b).view (gbRect s.castSucc p).set fullShare.left (GV I b c) :=
  slab_sq c (gbuf b).view _ _ _ _ _ _ (ag_src_val I c b p s)
theorem snd_last (b : Bool) (p : Fin 2) : sndPay I (.last b p) c
    = slab (Dev.tc c) (gbuf b).view (ghRect 2 p (lhalf b)).set fullShare.left (GV I b c) :=
  slab_sq c (gbuf b).view _ _ _ _ _ _ (last_src_val I c b p)

theorem rcv_rs (f : Fam) (p : Fin 2) (s : Fin 3) : rcvPay I (.rs f p s) c
    = slab (Dev.tc c) (buf f).view (pcRect f s.val p (dstSlot_lt f s)).set fullShare (VL I f c) :=
  slab_sq c (buf f).view _ _ _ _ _ _ (rs_dst_val I c f p s)
theorem rcv_rl (b : Bool) (p : Fin 2) : rcvPay I (.rl b p) c
    = slab (Dev.tc c) (buf (lfam b)).view (pcRect (lfam b) 3 p (l3_lt b)).set fullShare (VL I (lfam b) c) :=
  slab_sq c (buf (lfam b)).view _ _ _ _ _ _ (rl_dst_val I c b p)
theorem rcv_own (b : Bool) (p : Fin 2) : rcvPay I (.own b p) c
    = slab (Dev.tc c) (gbuf b).view (gbRect 0 p).set fullShare (GV I b c) :=
  slab_sq c (gbuf b).view _ _ _ _ _ _ (own_dst_val I c b p)
theorem rcv_ag (b : Bool) (p : Fin 2) (s : Fin 2) : rcvPay I (.ag b p s) c
    = slab (Dev.tc c) (gbuf b).view (gbRect s.succ p).set fullShare (GV I b c) :=
  slab_sq c (gbuf b).view _ _ _ _ _ _ (ag_dst_val I c b p s)
theorem rcv_last (b : Bool) (p : Fin 2) : rcvPay I (.last b p) c
    = slab (Dev.tc c) (gbuf b).view (ghRect 3 p (lhalf b)).set fullShare (GV I b c) :=
  slab_sq c (gbuf b).view _ _ _ _ _ _ (last_dst_val I c b p)

end Cert.KernelIdeal.Ring
-- ==== Proof.State.lean ====
/-
  The pieces of state a device holds while the kernel runs, and what each operation of the
  kernel takes and gives.
-/
module

public import proofs.«01_k».proof.Proof.Geo

@[expose] public section

noncomputable section

namespace Cert.KernelIdeal.Ring

open Cert.KernelIdeal Cert.KernelIdeal.Gen Cert.Piece
open Idealize.ShloMosaic Idealize.ShloMosaic.ValueIdx Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open PCS URA Auth

variable {F : FTy → Type} [FloatOps F]

local notation "𝕄" => MT nD τ sig Unit (Elt F) ℕ UU ℕ

/-! ## The chunks of the output -/

/-- The output's chunks, by when they are computed. -/
inductive Oc
  /-- The device's own. -/
  | own
  /-- The one in gather slot `s` of a direction. -/
  | g (b : Bool) (s : Fin 3)
  /-- The opposite device's. -/
  | far
  deriving DecidableEq

def ocOff (c : Dev nD) : Oc → Fin 2 → Nat
  | .own => k0_off2 c
  | .g b s => outOff c b s
  | .far => k0_off5 c
theorem ocOff_inb (c : Dev nD) : ∀ q a, ocOff c q a + S512x256.size a ≤ S4096x256.size a
  | .own => k0_off2_inb c
  | .g b s => outOff_inb c b s
  | .far => k0_off5_inb c
/-- The device whose rows a chunk is computed from. -/
def ocDev (c : Dev nD) : Oc → Dev nD
  | .own => c
  | .g b s => gdev b s.val c
  | .far => gdev true 3 c

theorem frmB_val (b : Bool) (c : Dev nD) : (frmB b c).val = (c.val + (bif b then 7 else 1)) % 8 := by
  cases b
  · exact k0_dev3_eq c
  · exact k0_dev5_eq c
theorem gdev_val (b : Bool) (s : ℕ) (c : Dev nD) : (gdev b s c).val = (c.val + (bif b then 7 else 1) * (s + 1)) % 8 := by
  induction s generalizing c with
  | zero => rw [Nat.zero_add, Nat.mul_one]; exact frmB_val b c
  | succ s ih =>
    show (gdev b s (frmB b c)).val = _
    rw [ih, frmB_val]
    cases b
    · show ((c.val + 1) % 8 + 1 * (s + 1)) % 8 = (c.val + 1 * (s + 1 + 1)) % 8
      omega
    · show ((c.val + 7) % 8 + 7 * (s + 1)) % 8 = (c.val + 7 * (s + 1 + 1)) % 8
      omega
theorem gdev_far (c : Dev nD) : gdev false 3 c = gdev true 3 c := Fin.ext (by
  rw [gdev_val, gdev_val]
  show (c.val + 1 * 4) % 8 = (c.val + 7 * 4) % 8
  omega)

theorem ocOff_eq (c : Dev nD) (q : Oc) : ocOff c q = ![512 * (ocDev c q).val, 0] := by
  have hc := c.isLt; change c.val < 8 at hc
  rcases q with _ | ⟨b, s⟩ | _
  · exact k0_off2_eq c
  · show outOff c b s = ![512 * (gdev b s.val c).val, 0]
    rw [gdev_val]
    cases b
    · refine (k0_off4_eq c s).trans ?_
      show ![512 * ((c.val + s.val + 1) % 8), 0] = ![512 * ((c.val + 1 * (s.val + 1)) % 8), 0]
      rw [show c.val + s.val + 1 = c.val + 1 * (s.val + 1) by omega]
    · refine (k0_off3_eq c s).trans ?_
      show ![512 * ((c.val + 7 - s.val) % 8), 0] = ![512 * ((c.val + 7 * (s.val + 1)) % 8), 0]
      rw [show (c.val + 7 - s.val) % 8 = (c.val + 7 * (s.val + 1)) % 8 by omega]
  · refine (k0_off5_eq c).trans ?_
    show _ = ![512 * (gdev true 3 c).val, 0]
    rw [gdev_val]
    show ![512 * ((c.val + 4) % 8), 0] = ![512 * ((c.val + 7 * 4) % 8), 0]
    rw [show (c.val + 4) % 8 = (c.val + 7 * 4) % 8 by omega]

abbrev yRect (c : Dev nD) (q : Oc) : Rect S4096x256 := Rect.unit (s := S4096x256) (ocOff c q) S512x256.size (ocOff_inb c q)

theorem y_emb (c : Dev nD) (q : Oc) (i : S512x256.Idx) :
    ((yRect c q).emb i 0).val = 512 * (ocDev c q).val + (i 0).val ∧ ((yRect c q).emb i 1).val = (i 1).val := by
  constructor
  · rw [Rect.emb_apply]; show ocOff c q 0 + 1 * (i 0).val = _; rw [ocOff_eq, Nat.one_mul]; rfl
  · rw [Rect.emb_apply]; show ocOff c q 1 + 1 * (i 1).val = _; rw [ocOff_eq, Nat.one_mul]; exact Nat.zero_add _

theorem y_val (I : Ins F) (c : Dev nD) (q : Oc) (i : S512x256.Idx) : OUT I c ((yRect c q).emb i) = outV I c (ocDev c q) i := by
  obtain ⟨h0, h1⟩ := y_emb c q i
  have hi := (i 0).isLt; change (i 0).val < 512 at hi
  unfold OUT
  congr 1
  · refine Fin.ext ?_
    show ((yRect c q).emb i 0).val / 512 = _
    rw [h0]; omega
  · exact idx2_ext _ _ (by show ((yRect c q).emb i 0).val % 512 = _; rw [h0]; omega) h1

theorem mem_y (c : Dev nD) (q : Oc) (i : S4096x256.Idx) : i ∈ (yRect c q).set ↔ (i 0).val / 512 = (ocDev c q).val := by
  have h1 := (i 1).isLt; change (i 1).val < 256 at h1
  rw [Rect.mem_set_unit, Fin.forall_fin_two, ocOff_eq]
  show (512 * (ocDev c q).val ≤ (i 0).val ∧ (i 0).val < 512 * (ocDev c q).val + 512) ∧ (0 ≤ (i 1).val ∧ (i 1).val < 0 + 256) ↔ _
  omega

/-! ## The atoms -/

/-- What a device holds. -/
inductive At
  /-- Where copy `k` lands on the neighbour. -/
  | land (k : Cp)
  /-- The right to fire copy `k`. -/
  | tok (k : Cp)
  /-- The right to wait for the neighbour's copy `k`. -/
  | rcv (k : Cp)
  /-- The position of the departure cell of copy `k`. -/
  | snd (k : Cp)
  /-- The right to wait for the departure of copy `k`. -/
  | crS (k : Cp)
  /-- The arrival semaphore of copy `k`, at zero. -/
  | zr (k : Cp)
  /-- The departure semaphore of copy `k`, at zero. -/
  | zs (k : Cp)
  /-- The source of copy `k`. -/
  | sr (k : Cp)
  /-- The arrived copy `k`. -/
  | ds (k : Cp)
  /-- A stream's last slot, of any contents. -/
  | sdJ (f : Fam)
  /-- A partial product's place, of any contents. -/
  | ptJ (o : Fin 8)
  /-- A partial product. -/
  | ptV (o : Fin 8)
  /-- A quarter of the own rows, of any contents. -/
  | owJ (p h : Fin 2)
  /-- The left quarter of the own rows. -/
  | owV (p : Fin 2)
  /-- A share of half the own rows. -/
  | kO (p : Fin 2)
  /-- A share of half the rows of gather slot `s`. -/
  | kG (b : Bool) (s : Fin 3) (p : Fin 2)
  /-- The other share of the columns of gather slot 2 that travel no further. -/
  | kL (b : Bool) (p : Fin 2)
  /-- A chunk of the output, of any contents. -/
  | ouJ (q : Oc)
  /-- A chunk of the output. -/
  | ouV (q : Oc)
  /-- The argument. -/
  | xx
  deriving DecidableEq

abbrev xMem : Memref sig .tc .vmem S4096x512 .bf16 := Memref.whole cc0_stg0_0
abbrev yMem : Memref sig .tc .vmem S4096x256 .f32 := Memref.whole cc0_stg3_0

variable (I : Ins F) (c : Dev nD)

/-- The rights to fire copy `k`. -/
def tokP (k : Cp) : sProp 𝕄 :=
  iprop(dutyTok ER (scell k c) 0 false ∗ reached ER (scell k c) 0
    ∗ dutyTok ER (rcell k (tgt k c)) 0 false ∗ reached ER (rcell k (tgt k c)) 0)

/-- What an atom stands for, on device `c`. -/
def at_ : At → sProp 𝕄
  | .land k => land k c
  | .tok k => tokP c k
  | .rcv k => iprop(cred (tallyAt (rcell k c) () (NK k)) ∗ atPos ER (rcell k c) 0 ∅ 0)
  | .snd k => atPos ER (scell k c) 0 ∅ 0
  | .crS k => cred (tallyAt (scell k c) () (NK k))
  | .zr k => semVal (rcell k c) 0
  | .zs k => semVal (scell k c) 0
  | .sr k => sndPay I k c
  | .ds k => rcvPay I k c
  | .sdJ f => junk (Dev.tc c) (buf f).view (slotRect f f.seed (by cases f <;> decide)).set
  | .ptJ o => junk (Dev.tc c) pbuf.view (pRect o).set
  | .ptV o => slab (Dev.tc c) pbuf.view (pRect o).set fullShare (PV I c)
  | .owJ p h => junk (Dev.tc c) obuf.view (oRect p h).set
  | .owV p => slab (Dev.tc c) obuf.view (oRect p 0).set fullShare (OV I c)
  | .kO p => slab (Dev.tc c) obuf.view (obRect p).set fullShare.right (OV I c)
  | .kG b s p => slab (Dev.tc c) (gbuf b).view (gbRect s p).set fullShare.right (GV I b c)
  | .kL b p => slab (Dev.tc c) (gbuf b).view (ghRect 2 p (rhalf b)).set fullShare.left (GV I b c)
  | .ouJ q => junk (Dev.tc c) yMem.view (yRect c q).set
  | .ouV q => slab (Dev.tc c) yMem.view (yRect c q).set fullShare (OUT I c)
  | .xx => slab (Dev.tc c) xMem.view Finset.univ fullShare (I.x c)

/-- What arrives with copy `k`, as the later operations use it. -/
def arr : Cp → List At
  | .rs f p s => [.ds (.rs f p s)]
  | .rl b p => [.ds (.rl b p)]
  | .own b p => [.sr (.ag b p 0), .kG b 0 p]
  | .ag b p 0 => [.sr (.ag b p 1), .kG b 1 p]
  | .ag b p 1 => [.sr (.last b p), .kL b p, .kG b 2 p]
  | .last b p => [.ds (.last b p)]

/-- What an operation takes. -/
def pre : Op → List At
  | .send k => [.land k, .tok k, .sr k]
  | .wR k => [.rcv k]
  | .wS k => [.crS k, .snd k]
  | .seed f => [.sdJ f, .xx]
  | .part i => [.ptJ (pord i), .xx]
  | .add f p s => [.ds (.rs f p s.castSucc), .ptV (f.off s.castSucc)]
  | .add3 b p => [.ds (.rs (lfam b) p 2), .ptV ((lfam b).off 2)]
  | .own p 0 => [.ds (.rl true p), .ds (.rs .la p 2), .ptV 0, .owJ p 0]
  | .own p 1 => [.ds (.rl false p), .ds (.rs .rb p 2), .ptV 0, .owJ p 1, .owV p]
  | .out => [.kO 0, .kO 1, .ouJ .own]
  | .outG b s => [.kG b s 0, .kG b s 1, .ouJ (.g b s)]
  | .outF => [.ds (.last true 0), .ds (.last true 1), .ds (.last false 0), .ds (.last false 1), .ouJ .far]

/-- What it gives. -/
def post : Op → List At
  | .send k => [.crS k]
  | .wR k => .zr k :: arr k
  | .wS k => [.zs k, .sr k]
  | .seed f => [.sr (.rs f 0 0), .sr (.rs f 1 0), .xx]
  | .part i => [.ptV (pord i), .xx]
  | .add f p s => [.sr (.rs f p s.succ), .ptV (f.off s.castSucc)]
  | .add3 b p => [.sr (.rl b p), .ptV ((lfam b).off 2)]
  | .own p 0 => [.ds (.rl true p), .ds (.rs .la p 2), .ptV 0, .owV p]
  | .own p 1 => [.ds (.rl false p), .ds (.rs .rb p 2), .ptV 0, .sr (.own true p), .sr (.own false p), .kO p]
  | .out => [.kO 0, .kO 1, .ouV .own]
  | .outG b s => [.kG b s 0, .kG b s 1, .ouV (.g b s)]
  | .outF => [.ds (.last true 0), .ds (.last true 1), .ds (.last false 0), .ds (.last false 1), .ouV .far]

/-- The copies still to be fired after an operation; none where it would be out of order. -/
def left : Op → List Cp → Option (List Cp)
  | .send k, k' :: l => if k = k' then some l else none
  | .send _, [] => none
  | .wR k, l => if (l.all fun k' => decide (rank k < rank k')) = true then some l else none
  | .wS _, l => if l = [] then some l else none
  | _, l => some l

/-- What the device owes for the copies `l` it has not fired. -/
def ow (l : List Cp) : sProp 𝕄 := iprop(∃ W : Waits sig Unit, owes (c : Thread nD τ) (owedL c l) W)

variable (K : Dev nD × CI → ℕ)

/-- Every cell's invariant. -/
def invs : sProp 𝕄 := bigSep Finset.univ fun ci : Dev nD × CI => cellInv ER (Rd I) (K ci) (kcell ci)

instance invs_persistent : BI.Persistent (invs I K) := by unfold invs; infer_instance

theorem inv_r (k : Cp) (c : Dev nD) : invs I K ⊢ cellInv ER (Rd I) (K (c, some (true, k))) (rcell k c) :=
  bigSep_elim (Finset.mem_univ ((c, some (true, k)) : Dev nD × CI))
theorem inv_s (k : Cp) (c : Dev nD) : invs I K ⊢ cellInv ER (Rd I) (K (c, some (false, k))) (scell k c) :=
  bigSep_elim (Finset.mem_univ ((c, some (false, k)) : Dev nD × CI))
theorem inv_b (c : Dev nD) : invs I K ⊢ cellInv ER (Rd I) (K (c, none)) (barCell c) :=
  bigSep_elim (Finset.mem_univ ((c, none) : Dev nD × CI))

abbrev 𝒱₀ : Variants := Variants.none

variable {Q : PUnit → sProp (MT nD τ sig Unit (Elt F) ℕ UU ℕ)} (Kp : Pg F)

/-- The program `Kp`, run to `Q` on device `c`. -/
abbrev run (Kp : Pg F) (Q : PUnit → sProp (MT nD τ sig Unit (Elt F) ℕ UU ℕ)) : sProp 𝕄 :=
  wp frame (wpE (defs₀ (F := F)) 𝒱₀ (c : Thread nD τ) none) Set.univ Kp Q

/-! ## The copies -/

theorem src_credit (k : Cp) : (src k).view.dmaCredit = NK k := by
  cases k <;> rfl

theorem rule_send (k : Cp) (l : List Cp) :
    iprop(invs I K ∗ star (at_ I c) [.land k, .tok k, .sr k] ∗ ow c (k :: l))
      ⊢ iprop((star (at_ I c) [.crS k] ∗ ow c l -∗ run c Kp Q)
        -∗ run c (.op (.enqueueDma (src k) (.remote (Dev.tc (tgt k c)) (dst k) (.dma (ssem k)) (dst_notSc k)) (.dma (rsem k))
            (src_exact k) (dst_exact k) ⟨⟨rfl, Or.inl rfl⟩, trivial⟩) fun _ => Kp) Q) := by
  simp only [star_cons, star_nil, at_]
  unfold ow land junk slab sndPay tokP
  rw [View.setOn_univ]
  iintro ⟨#HI, ⟨⟨%g, Hd⟩, ⟨Ht1, Hr1, Ht2, Hr2⟩, Hs, -⟩, ⟨%W, HO⟩⟩ Hk
  ihave Hs' := (Entails.of_eq (show _ = (src k).view.loc (Dev.tc c : Thread nD τ) ↦[(src k).view.set]{sq k} (src k).view.rep (VK I k c) by
    unfold slab; rw [View.setOn_univ])) $$ Hs
  iapply (Rounds.wp_send_pointsTo 𝒱₀ ER (Rd I) (c : Thread nD τ) none (κ₁ := K (c, some (false, k))) (κ₂ := K (tgt k c, some (true, k)))
    (r₁ := 0) (r₂ := 0) (d₁ := false) (d₂ := false) (fd := (dst k).view.rep g) (fs := (src k).view.rep (VK I k c))
    (by rw [duties_send]; exact Finset.mem_singleton_self _) (by rw [duties_recv]; exact Finset.mem_singleton_self _)
    () () (NK k) rfl (amount_send I c k false) (amount_recv I (tgt k c) k false) (owedL c l) rfl (W := W)
    (by rw [payload_send]; unfold sndPay slab; rw [View.setOn_univ])
    (by
      rw [payload_recv]; unfold rcvPay
      rw [frm_tgt, ← View.setOn_univ, slab_of, View.read_write_univ, View.read_rep])) $$ [Hd Hs' Ht1 Hr1 Ht2 Hr2 HO]
  · isplitr; · iapply (inv_s I K k c); iexact HI
    isplitr; · iapply (inv_r I K k (tgt k c)); iexact HI
    isplitl [Hs']; · iexact Hs'
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [Hc]
  · isplitl [Hc]; · iexact Hc
    iempintro
  iexists W; iexact HO

theorem rule_wS (k : Cp) :
    iprop(invs I K ∗ star (at_ I c) [.crS k, .snd k] ∗ ow c [])
      ⊢ iprop((star (at_ I c) [.zs k, .sr k] ∗ ow c [] -∗ run c Kp Q)
        -∗ run c (.op (.waitDma2 (ssem k) (dst k) (src k) (dst_exact k) (src_exact k)) fun _ => Kp) Q) := by
  simp only [star_cons, star_nil, at_]
  unfold ow
  iintro ⟨#HI, ⟨Hc, Ha, -⟩, ⟨%W, HO⟩⟩ Hk
  iapply (Rounds.wp_wait_rest_token 𝒱₀ ER (Rd I) (c : Thread nD τ) none (κ := K (c, some (false, k)))
      (wpE_waitDma2_eq 𝒱₀ (c : Thread nD τ) none Set.univ) (Set.mem_univ _) () (O := owedL c []) (W := W) (R := 0) (m := 0) (T := ∅)
      ((Nat.zero_add _).trans ((src_credit k).trans (expect_send I c k).symm))) $$ [Hc HO Ha]
  · isplitr; · iapply (inv_s I K k c); iexact HI
    isplitl [Hc]; · rw [src_credit]; iexact Hc
    isplitl [HO]; · iexact HO
    isplitr; · rw [show owedL c [] = 0 from rfl, MayWait_zero]; iempintro
    iexact Ha
  iintro ⟨HO, Ha, -, Hpay⟩
  ihave Hp := (Entails.of_eq (rest_send I c k)) $$ Hpay
  imod (Rounds.cell_close ER (Rd I) (Set.mem_univ (K (c, some (false, k)))) (fun h => h) (R := 0 + 1) (duties_later I (scell k c))) $$ [Ha] with Hz
  · isplitr; · iapply (inv_s I K k c); iexact HI
    iexact Ha
  iapply Hk
  isplitl [Hz Hp]
  · isplitl [Hz]; · iexact Hz
    isplitl [Hp]; · iexact Hp
    iempintro
  iexists _; iexact HO

/-- What an arrived copy holds is what the later operations use. -/
theorem arr_of (k : Cp) : rcvPay I k c ⊢ star (at_ I c) (arr k) := by
  have two : ∀ (b : Bool) (s : Fin 3) (p : Fin 2), slab (Dev.tc c) (gbuf b).view (gbRect s p).set fullShare (GV I b c)
      ⊢ (iprop(slab (Dev.tc c) (gbuf b).view (gbRect s p).set fullShare.left (GV I b c)
        ∗ slab (Dev.tc c) (gbuf b).view (gbRect s p).set fullShare.right (GV I b c)) : sProp 𝕄) :=
    fun b s p => (slab_share _ _ (PosShare.mem_left_op_right fullShare) _).1
  rcases k with ⟨f, p, s⟩ | ⟨b, p⟩ | ⟨b, p⟩ | ⟨b, p, s⟩ | ⟨b, p⟩
  · exact (star_one (at_ I c) (.ds (.rs f p s))).2
  · exact (star_one (at_ I c) (.ds (.rl b p))).2
  · rw [rcv_own]
    simp only [arr, star_cons, star_nil, at_]
    rw [snd_ag]
    iintro H
    icases (two b 0 p) $$ H with ⟨H1, H2⟩
    isplitl [H1]; · iexact H1
    isplitl [H2]; · iexact H2
    iempintro
  · match s with
    | 0 =>
      rw [show rcvPay I (.ag b p 0) c = slab (Dev.tc c) (gbuf b).view (gbRect 1 p).set fullShare (GV I b c) from rcv_ag I c b p 0]
      simp only [arr, star_cons, star_nil, at_]
      rw [snd_ag]
      iintro H
      icases (two b 1 p) $$ H with ⟨H1, H2⟩
      isplitl [H1]; · iexact H1
      isplitl [H2]; · iexact H2
      iempintro
    | 1 =>
      rw [show rcvPay I (.ag b p 1) c = slab (Dev.tc c) (gbuf b).view (gbRect 2 p).set fullShare (GV I b c) from rcv_ag I c b p 1]
      simp only [arr, star_cons, star_nil, at_]
      rw [snd_last]
      iintro H
      icases (two b 2 p) $$ H with ⟨H1, H2⟩
      ihave H1' := (Entails.of_eq (congrArg (fun R => slab (Dev.tc c) (gbuf b).view R fullShare.left (GV I b c)) (gb2_eq b p))) $$ H1
      icases (slab_union _ _ (gb2_disj b p) _ _).1 $$ H1' with ⟨H3, H4⟩
      isplitl [H3]; · iexact H3
      isplitl [H4]; · iexact H4
      isplitl [H2]; · iexact H2
      iempintro
  · exact (star_one (at_ I c) (.ds (.last b p))).2

theorem rule_wR (k : Cp) (l : List Cp) (hl : ∀ k' ∈ l, rank k < rank k') :
    iprop((invs I K ∗ levAts L lv) ∗ star (at_ I c) [.rcv k] ∗ ow c l)
      ⊢ iprop((star (at_ I c) (.zr k :: arr k) ∗ ow c l -∗ run c Kp Q)
        -∗ run c (.op (.waitDma2 (rsem k) (dst k) (dst k) (dst_exact k) (dst_exact k)) fun _ => Kp) Q) := by
  simp only [star_cons, star_nil, at_]
  unfold ow
  iintro ⟨⟨#HI, #HL⟩, ⟨⟨Hc, Ha⟩, -⟩, ⟨%W, HO⟩⟩ Hk
  iapply (Rounds.wp_wait_rest_token 𝒱₀ ER (Rd I) (c : Thread nD τ) none (κ := K (c, some (true, k)))
      (wpE_waitDma2_eq 𝒱₀ (c : Thread nD τ) none Set.univ) (Set.mem_univ _) () (O := owedL c l) (W := W) (R := 0) (m := 0) (T := ∅)
      (by rw [Nat.zero_add, expect_recv])) $$ [Hc HO Ha]
  · isplitr; · iapply (inv_r I K k c); iexact HI
    isplitl [Hc]; · iexact Hc
    isplitl [HO]; · iexact HO
    isplitr; · iapply (mayWait_recv c k l hl); iexact HL
    iexact Ha
  iintro ⟨HO, Ha, -, Hpay⟩
  ihave Hp := (Entails.of_eq (rest_recv I c k)) $$ Hpay
  imod (Rounds.cell_close ER (Rd I) (Set.mem_univ (K (c, some (true, k)))) (fun h => h) (R := 0 + 1) (duties_later I (rcell k c))) $$ [Ha] with Hz
  · isplitr; · iapply (inv_r I K k c); iexact HI
    iexact Ha
  iapply Hk
  isplitl [Hz Hp]
  · isplitl [Hz]; · iexact Hz
    iapply (arr_of I c k); iexact Hp
  iexists _; iexact HO

/-! ## The local operations -/

variable (a1 : Vec F S512x512 .bf16)

theorem snd_next (f : Fam) (p : Fin 2) (s : Fin 2) : sndPay I (.rs f p s.succ) c
    = slab (Dev.tc c) (buf f).view (pcRect f s.castSucc.val p (dstSlot_lt f s.castSucc)).set fullShare (VS I f c) := by
  rw [snd_rs]
  match s with
  | 0 => rfl
  | 1 => rfl

theorem rule_add' (f : Fam) (p : Fin 2) (s : Fin 3) (hs : s.val < f.seed) :
    iprop(slab (Dev.tc c) (buf f).view (pcRect f s.val p (dstSlot_lt f s)).set fullShare (VL I f c)
        ∗ slab (Dev.tc c) pbuf.view (pRect (f.off s)).set fullShare (PV I c))
      ⊢ iprop((iprop(slab (Dev.tc c) (buf f).view (pcRect f s.val p (dstSlot_lt f s)).set fullShare (VS I f c)
          ∗ slab (Dev.tc c) pbuf.view (pRect (f.off s)).set fullShare (PV I c)) -∗ run c Kp Q)
        -∗ run c (addProg f p s.val (dstSlot_lt f s) (f.off s) Kp) Q) := by
  unfold addProg
  iintro ⟨Hb, Hp⟩ Hk
  iapply (wp_load_slab 𝒱₀ (Dev.tc c : Thread nD τ) none Set.univ (m := pbuf) (Finset.Subset.refl _)) $$ Hp
  iintro Hp
  iapply (wp_load_slab 𝒱₀ (Dev.tc c : Thread nD τ) none Set.univ (m := buf f) (Finset.Subset.refl _)) $$ Hb
  iintro Hb
  iapply (wp_load_slab 𝒱₀ (Dev.tc c : Thread nD τ) none Set.univ (m := buf f) (Finset.Subset.refl _)) $$ Hb
  iintro Hb
  iapply (wp_store_slab 𝒱₀ (Dev.tc c : Thread nD τ) none Set.univ (m := buf f) (g' := VS I f c) (Finset.Subset.refl _)
    (fun i => add_val I c f p s hs i) (fun i hi h => absurd hi h)) $$ Hb
  iintro Hb
  iapply Hk
  isplitl [Hb] <;> iassumption

theorem rule_add (f : Fam) (p : Fin 2) (s : Fin 2) :
    star (at_ I c) (pre (.add f p s))
      ⊢ iprop((star (at_ I c) (post (.add f p s)) -∗ run c Kp Q)
        -∗ run c (addProg f p s.castSucc.val (dstSlot_lt f s.castSucc) (f.off s.castSucc) Kp) Q) := by
  simp only [pre, post, star_cons, star_nil, at_]
  rw [rcv_rs, snd_next]
  iintro ⟨Hb, Hp, -⟩ Hk
  iapply (rule_add' I c Kp f p s.castSucc (by revert s; cases f <;> decide)) $$ [Hb Hp]
  · isplitl [Hb] <;> iassumption
  iintro ⟨Hb, Hp⟩
  iapply Hk
  isplitl [Hb]; · iexact Hb
  isplitl [Hp]; · iexact Hp
  iempintro

theorem rule_add3 (b : Bool) (p : Fin 2) :
    star (at_ I c) (pre (.add3 b p))
      ⊢ iprop((star (at_ I c) (post (.add3 b p)) -∗ run c Kp Q)
        -∗ run c (addProg (lfam b) p 2 (l2_lt b) ((lfam b).off 2) Kp) Q) := by
  simp only [pre, post, star_cons, star_nil, at_]
  rw [rcv_rs, snd_rl]
  iintro ⟨Hb, Hp, -⟩ Hk
  iapply (rule_add' I c Kp (lfam b) p 2 (by cases b <;> decide)) $$ [Hb Hp]
  · isplitl [Hb] <;> iassumption
  iintro ⟨Hb, Hp⟩
  iapply Hk
  isplitl [Hb]; · iexact Hb
  isplitl [Hp]; · iexact Hp
  iempintro

theorem seed_lt (f : Fam) : f.seed < f.n := by cases f <;> decide

theorem rule_seed (f : Fam) :
    star (at_ I c) (pre (.seed f))
      ⊢ iprop((star (at_ I c) (post (.seed f)) -∗ run c Kp Q)
        -∗ run c (.op (.load xMem (Rect.unit (s := S4096x512) (k0_off1 c (BitVec.ofNat 32 f.start.val)) S512x512.size (k0_off1_inb c f.start)).toLoadRect
      (View.loadsAt_vmem h_S512x512)) fun a =>
    .op (.load (buf f) (slotRect f f.seed (seed_lt f)).toLoadRect (View.loadsAt_vmem h_S1x512x256)) fun _ =>
    .op (.store (buf f) (slotRect f f.seed (seed_lt f)) (seedPay (w1half (I.w1 c) f.half) a) Finset.univ
      (View.stores_vmem h_S1x512x256 ((buf_whole f).storeExact_slice rfl _ (slot_packed f)) (fun _ => rfl)) (.inl rfl)) fun _ => Kp) Q) := by
  simp only [pre, post, star_cons, star_nil, at_]
  rw [snd_rs, snd_rs]
  iintro ⟨Hb, Hx, -⟩ Hk
  iapply (wp_load_slab 𝒱₀ (Dev.tc c : Thread nD τ) none Set.univ (m := xMem) (Finset.subset_univ _)) $$ Hx
  iintro Hx
  iapply (wp_load_junk 𝒱₀ (Dev.tc c : Thread nD τ) none Set.univ (m := buf f) (Finset.Subset.refl _)) $$ Hb
  iintro Hb
  iapply (wp_store_junk 𝒱₀ (Dev.tc c : Thread nD τ) none Set.univ (m := buf f) (r := slotRect f f.seed (seed_lt f)) (w := seedPay (w1half (I.w1 c) f.half) (chunk I c f.start)) (g := VS I f c) (fun i => seed_val I c f i)) $$ Hb
  iintro Hb
  ihave Hb' := (Entails.of_eq (congrArg (fun R => slab (Dev.tc c) (buf f).view R fullShare (VS I f c)) (slot_eq f))) $$ Hb
  icases (slab_union _ _ (slot_disj f) _ _).1 $$ Hb' with ⟨H1, H2⟩
  iapply Hk
  isplitl [H1]; · iexact H1
  isplitl [H2]; · iexact H2
  isplitl [Hx]; · iexact Hx
  iempintro

theorem rule_part (i : Fin 7) :
    star (at_ I c) (pre (.part i))
      ⊢ iprop((star (at_ I c) (post (.part i)) -∗ run c Kp Q)
        -∗ run c (.op (.load xMem (Rect.unit (s := S4096x512) (k0_off1 c (BitVec.ofNat 32 (pord i).val)) S512x512.size (k0_off1_inb c (pord i))).toLoadRect
      (View.loadsAt_vmem h_S512x512)) fun a =>
    .op (.load pbuf (pRect (pord i)).toLoadRect (View.loadsAt_vmem h_S1x512x512)) fun _ =>
    .op (.store pbuf (pRect (pord i)) (k0_pay11 (k0_pay1 (I.w1 c)) a) Finset.univ
      (View.stores_vmem h_S1x512x512 ((Memref.isWhole_whole _).storeExact_slice rfl _ (p_packed (pord i))) (fun _ => rfl)) (.inl rfl)) fun _ => Kp) Q) := by
  simp only [pre, post, star_cons, star_nil, at_]
  iintro ⟨Hb, Hx, -⟩ Hk
  iapply (wp_load_slab 𝒱₀ (Dev.tc c : Thread nD τ) none Set.univ (m := xMem) (Finset.subset_univ _)) $$ Hx
  iintro Hx
  iapply (wp_load_junk 𝒱₀ (Dev.tc c : Thread nD τ) none Set.univ (m := pbuf) (Finset.Subset.refl _)) $$ Hb
  iintro Hb
  iapply (wp_store_junk 𝒱₀ (Dev.tc c : Thread nD τ) none Set.univ (m := pbuf) (r := pRect (pord i)) (w := k0_pay11 (k0_pay1 (I.w1 c)) (chunk I c (pord i))) (g := PV I c) (fun j => part_val I c (pord i) j)) $$ Hb
  iintro Hb
  iapply Hk
  isplitl [Hb]; · iexact Hb
  isplitl [Hx]; · iexact Hx
  iempintro

theorem rule_own' (f g : Fam) (sf sg : Nat) (hf : sf < f.n) (hg : sg < g.n) (p h : Fin 2)
    (hv : ∀ i, OV I c ((oRect p h).emb i) = ownPay p h (fun i => VL I f c ((pcRect f sf p hf).emb i))
      (fun i => VL I g c ((pcRect g sg p hg).emb i)) (fun i => PV I c ((pRect 0).emb i)) i) :
    iprop(slab (Dev.tc c) (buf f).view (pcRect f sf p hf).set fullShare (VL I f c)
        ∗ slab (Dev.tc c) (buf g).view (pcRect g sg p hg).set fullShare (VL I g c)
        ∗ slab (Dev.tc c) pbuf.view (pRect 0).set fullShare (PV I c)
        ∗ junk (Dev.tc c) obuf.view (oRect p h).set)
      ⊢ iprop((iprop(slab (Dev.tc c) (buf f).view (pcRect f sf p hf).set fullShare (VL I f c)
          ∗ slab (Dev.tc c) (buf g).view (pcRect g sg p hg).set fullShare (VL I g c)
          ∗ slab (Dev.tc c) pbuf.view (pRect 0).set fullShare (PV I c)
          ∗ slab (Dev.tc c) obuf.view (oRect p h).set fullShare (OV I c)) -∗ run c Kp Q)
        -∗ run c (ownProg f g sf sg hf hg p h Kp) Q) := by
  unfold ownProg
  iintro ⟨Hf, Hg, Hp, Ho⟩ Hk
  iapply (wp_load_slab 𝒱₀ (Dev.tc c : Thread nD τ) none Set.univ (m := buf f) (Finset.Subset.refl _)) $$ Hf
  iintro Hf
  iapply (wp_load_slab 𝒱₀ (Dev.tc c : Thread nD τ) none Set.univ (m := buf g) (Finset.Subset.refl _)) $$ Hg
  iintro Hg
  iapply (wp_load_slab 𝒱₀ (Dev.tc c : Thread nD τ) none Set.univ (m := pbuf) (Finset.Subset.refl _)) $$ Hp
  iintro Hp
  iapply (wp_load_junk 𝒱₀ (Dev.tc c : Thread nD τ) none Set.univ (m := obuf) (Finset.Subset.refl _)) $$ Ho
  iintro Ho
  iapply (wp_store_junk 𝒱₀ (Dev.tc c : Thread nD τ) none Set.univ (m := obuf) (g := OV I c) hv) $$ Ho
  iintro Ho
  iapply Hk
  isplitl [Hf]; · iexact Hf
  isplitl [Hg]; · iexact Hg
  isplitl [Hp] <;> iassumption

theorem rule_own0 (p : Fin 2) :
    star (at_ I c) (pre (.own p 0))
      ⊢ iprop((star (at_ I c) (post (.own p 0)) -∗ run c Kp Q)
        -∗ run c (ownProg .ra .la 3 2 (by decide) (by decide) p 0 Kp) Q) := by
  simp only [pre, post, star_cons, star_nil, at_]
  rw [rcv_rl, rcv_rs]
  iintro ⟨Hf, Hg, Hp, Ho, -⟩ Hk
  iapply (rule_own' I c Kp .ra .la 3 2 _ _ p 0 (own_val0 I c p)) $$ [Hf Hg Hp Ho]
  · isplitl [Hf]; · iexact Hf
    isplitl [Hg]; · iexact Hg
    isplitl [Hp] <;> iassumption
  iintro ⟨Hf, Hg, Hp, Ho⟩
  iapply Hk
  isplitl [Hf]; · iexact Hf
  isplitl [Hg]; · iexact Hg
  isplitl [Hp]; · iexact Hp
  isplitl [Ho]; · iexact Ho
  iempintro

theorem rule_own1 (p : Fin 2) :
    star (at_ I c) (pre (.own p 1))
      ⊢ iprop((star (at_ I c) (post (.own p 1)) -∗ run c Kp Q)
        -∗ run c (ownProg .lb .rb 3 2 (by decide) (by decide) p 1 Kp) Q) := by
  simp only [pre, post, star_cons, star_nil, at_]
  rw [rcv_rl, rcv_rs, snd_own, snd_own]
  iintro ⟨Hf, Hg, Hp, Ho, Hv, -⟩ Hk
  iapply (rule_own' I c Kp .lb .rb 3 2 _ _ p 1 (own_val1 I c p)) $$ [Hf Hg Hp Ho]
  · isplitl [Hf]; · iexact Hf
    isplitl [Hg]; · iexact Hg
    isplitl [Hp] <;> iassumption
  iintro ⟨Hf, Hg, Hp, Ho⟩
  ihave Hu := (slab_union _ _ (ob_disj p) _ _).2 $$ [Hv Ho]
  · isplitl [Hv] <;> iassumption
  ihave Hu' := (Entails.of_eq (congrArg (fun R => slab (Dev.tc c) obuf.view R fullShare (OV I c)) (ob_eq p).symm)) $$ Hu
  icases (slab_share _ _ (PosShare.mem_left_op_right fullShare) _).1 $$ Hu' with ⟨H1, H2⟩
  icases (slab_share _ _ (PosShare.mem_left_op_right fullShare.left) _).1 $$ H1 with ⟨H3, H4⟩
  iapply Hk
  isplitl [Hf]; · iexact Hf
  isplitl [Hg]; · iexact Hg
  isplitl [Hp]; · iexact Hp
  isplitl [H3]; · iexact H3
  isplitl [H4]; · iexact H4
  isplitl [H2]; · iexact H2
  iempintro

/-- A chunk of the output stored. -/
theorem rule_y (q : Oc) (w : FVec F S512x256 .f32) (hw : w = outV I c (ocDev c q)) :
    junk (Dev.tc c) yMem.view (yRect c q).set
      ⊢ iprop((slab (Dev.tc c) yMem.view (yRect c q).set fullShare (OUT I c) -∗ run c Kp Q)
        -∗ run c (outProg yMem (ocOff c q) (ocOff_inb c q) w Kp) Q) := by
  subst hw
  unfold outProg
  iintro Hy Hk
  iapply (wp_load_junk 𝒱₀ (Dev.tc c : Thread nD τ) none Set.univ (m := yMem) (r := yRect c q) (Finset.Subset.refl _)) $$ Hy
  iintro Hy
  iapply (wp_store_junk 𝒱₀ (Dev.tc c : Thread nD τ) none Set.univ (m := yMem) (r := yRect c q) (g := OUT I c) (fun i => y_val I c q i)) $$ Hy
  iintro Hy
  iapply Hk
  iexact Hy

theorem rule_out :
    star (at_ I c) (pre .out)
      ⊢ iprop((star (at_ I c) (post .out) -∗ run c Kp Q)
        -∗ run c (opProg xMem yMem c (I.w1 c) (w2u I c) (w2v I c) .out Kp) Q) := by
  simp only [pre, post, star_cons, star_nil, at_, opProg]
  iintro ⟨H1, H2, Hy, -⟩ Hk
  ihave Hu := (slab_union _ _ oAll_disj _ _).2 $$ [H1 H2]
  · isplitl [H1] <;> iassumption
  iapply (wp_load_slab 𝒱₀ (Dev.tc c : Thread nD τ) none Set.univ (m := obuf) (by rw [← oAll_eq]; exact Finset.subset_univ _)) $$ Hu
  iintro Hu
  iapply (wp_load_slab 𝒱₀ (Dev.tc c : Thread nD τ) none Set.univ (m := obuf) (by rw [← oAll_eq]; exact Finset.subset_univ _)) $$ Hu
  iintro Hu
  iapply (rule_y I c Kp .own _ (by rw [oc_val, oc_val]; rfl)) $$ Hy
  iintro Hy
  icases (slab_union _ _ oAll_disj _ _).1 $$ Hu with ⟨H1, H2⟩
  iapply Hk
  isplitl [H1]; · iexact H1
  isplitl [H2]; · iexact H2
  isplitl [Hy]; · iexact Hy
  iempintro

theorem rule_outG (b : Bool) (s : Fin 3) :
    star (at_ I c) (pre (.outG b s))
      ⊢ iprop((star (at_ I c) (post (.outG b s)) -∗ run c Kp Q)
        -∗ run c (opProg xMem yMem c (I.w1 c) (w2u I c) (w2v I c) (.outG b s) Kp) Q) := by
  simp only [pre, post, star_cons, star_nil, at_, opProg]
  iintro ⟨H1, H2, Hy, -⟩ Hk
  ihave Hu := (slab_union _ _ (gb_disj s) _ _).2 $$ [H1 H2]
  · isplitl [H1] <;> iassumption
  iapply (wp_load_slab 𝒱₀ (Dev.tc c : Thread nD τ) none Set.univ (m := gbuf b) (gc_sub s 0)) $$ Hu
  iintro Hu
  iapply (wp_load_slab 𝒱₀ (Dev.tc c : Thread nD τ) none Set.univ (m := gbuf b) (gc_sub s 1)) $$ Hu
  iintro Hu
  iapply (rule_y I c Kp (.g b s) _ (by
    rw [pay52_eq]
    exact congrArg₂ (k0_pay51 (k0_pay4 (w2u I c)) (k0_pay5 (w2v I c))) (gc_val I c b s.castSucc 0) (gc_val I c b s.castSucc 1))) $$ Hy
  iintro Hy
  icases (slab_union _ _ (gb_disj s) _ _).1 $$ Hu with ⟨H1, H2⟩
  iapply Hk
  isplitl [H1]; · iexact H1
  isplitl [H2]; · iexact H2
  isplitl [Hy]; · iexact Hy
  iempintro

theorem rule_outF :
    star (at_ I c) (pre .outF)
      ⊢ iprop((star (at_ I c) (post .outF) -∗ run c Kp Q)
        -∗ run c (opProg xMem yMem c (I.w1 c) (w2u I c) (w2v I c) .outF Kp) Q) := by
  simp only [pre, post, star_cons, star_nil, at_, opProg]
  rw [rcv_last, rcv_last, rcv_last, rcv_last]
  iintro ⟨H1, H2, H3, H4, Hy, -⟩ Hk
  ihave Hu := (slab_union _ _ (gh_disj 3 0) _ _).2 $$ [H1 H2]
  · isplitl [H1] <;> iassumption
  ihave Hv := (slab_union _ _ (gh_disj 3 1) _ _).2 $$ [H3 H4]
  · isplitl [H3] <;> iassumption
  iapply (wp_load_slab 𝒱₀ (Dev.tc c : Thread nD τ) none Set.univ (m := gbuf true) (gc3_sub 0)) $$ Hu
  iintro Hu
  iapply (wp_load_slab 𝒱₀ (Dev.tc c : Thread nD τ) none Set.univ (m := gbuf false) (gc3_sub 1)) $$ Hv
  iintro Hv
  iapply (rule_y I c Kp .far _ (by
    rw [pay52_eq]
    refine congrArg₂ (k0_pay51 (k0_pay4 (w2u I c)) (k0_pay5 (w2v I c))) (gc_val I c true 3 0) ((gc_val I c false 3 1).trans ?_)
    exact congrArg (fun q => OVh I q 1) (gdev_far c))) $$ Hy
  iintro Hy
  icases (slab_union _ _ (gh_disj 3 0) _ _).1 $$ Hu with ⟨H1, H2⟩
  icases (slab_union _ _ (gh_disj 3 1) _ _).1 $$ Hv with ⟨H3, H4⟩
  iapply Hk
  isplitl [H1]; · iexact H1
  isplitl [H2]; · iexact H2
  isplitl [H3]; · iexact H3
  isplitl [H4]; · iexact H4
  isplitl [Hy]; · iexact Hy
  iempintro

end Cert.KernelIdeal.Ring
-- ==== Proof.Machine.lean ====
/-
  The kernel's operations run in order: what a device holds before and after all of them.
-/
module

public import proofs.«01_k».proof.Proof.State

@[expose] public section

noncomputable section

namespace Cert.KernelIdeal.Ring

open Cert.KernelIdeal Cert.KernelIdeal.Gen Cert.Piece
open Idealize.ShloMosaic Idealize.ShloMosaic.ValueIdx Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open PCS URA Auth

variable {F : FTy → Type} [FloatOps F]

local notation "𝕄" => MT nD τ sig Unit (Elt F) ℕ UU ℕ

/-! ## Bookkeeping -/

/-- A list without one occurrence of an atom. -/
def pick (a : At) : List At → Option (List At)
  | [] => none
  | b :: l => if a = b then some l else (pick a l).map (b :: ·)

theorem pick_perm {a : At} {l l' : List At} (h : pick a l = some l') : l.Perm (a :: l') := by
  induction l generalizing l' with
  | nil => cases h
  | cons b l ih =>
    unfold pick at h
    by_cases e : a = b
    · rw [if_pos e] at h
      cases h; subst e; exact .refl _
    · rw [if_neg e] at h
      obtain ⟨l'', h', rfl⟩ := Option.map_eq_some_iff.mp h
      exact ((ih h').cons b).trans (.swap a b l'')

/-- A list without the atoms of another. -/
def takes : List At → List At → Option (List At)
  | [], l => some l
  | a :: m, l => (pick a l).bind (takes m)

theorem takes_perm {m l l' : List At} (h : takes m l = some l') : l.Perm (m ++ l') := by
  induction m generalizing l with
  | nil => cases h; exact .refl _
  | cons a m ih =>
    obtain ⟨l'', h1, h2⟩ := Option.bind_eq_some_iff.mp h
    exact (pick_perm h1).trans ((ih h2).cons a)

/-- The atoms and the copies to be fired after a list of operations. -/
def runM : List Op → List At → List Cp → Option (List At × List Cp)
  | [], A, l => some (A, l)
  | o :: os, A, l => (left o l).bind fun l' => (takes (pre o) A).bind fun A' => runM os (post o ++ A') l'

/-- The output's chunks, all of them. -/
def allOc : List Oc := [.own, .g true 0, .g false 0, .g true 1, .g false 1, .g true 2, .g false 2, .far]

/-- The atoms of the scratch buffers at the start. -/
def bufA : List At :=
  [Fam.ra, .la, .rb, .lb].map .sdJ ++ ([0, 1, 2, 3, 5, 6, 7] : List (Fin 8)).map .ptJ
    ++ ([(0, 0), (0, 1), (1, 0), (1, 1)] : List (Fin 2 × Fin 2)).map (fun a => .owJ a.1 a.2)

/-- What a device holds when the operations start. -/
def initA : List At :=
  sends.map .land ++ sends.map .tok ++ sends.map .rcv ++ sends.map .snd ++ bufA ++ allOc.map .ouJ ++ [.xx]

/-- The atoms that together make up a piece of a stream's buffer at the end. -/
def slotA : (f : Fam) → Fin f.n → Fin 2 → At
  | .ra, 4, p => .sr (.rs .ra p 0)
  | .ra, 0, p => .sr (.rs .ra p 1)
  | .ra, 1, p => .sr (.rs .ra p 2)
  | .ra, 2, p => .sr (.rl true p)
  | .ra, 3, p => .ds (.rl true p)
  | .la, 3, p => .sr (.rs .la p 0)
  | .la, 0, p => .sr (.rs .la p 1)
  | .la, 1, p => .sr (.rs .la p 2)
  | .la, 2, p => .ds (.rs .la p 2)
  | .rb, 3, p => .sr (.rs .rb p 0)
  | .rb, 0, p => .sr (.rs .rb p 1)
  | .rb, 1, p => .sr (.rs .rb p 2)
  | .rb, 2, p => .ds (.rs .rb p 2)
  | .lb, 4, p => .sr (.rs .lb p 0)
  | .lb, 0, p => .sr (.rs .lb p 1)
  | .lb, 1, p => .sr (.rs .lb p 2)
  | .lb, 2, p => .sr (.rl false p)
  | .lb, 3, p => .ds (.rl false p)

/-- The pieces of a stream's buffer that copies land in. -/
def lslots : (f : Fam) → List (Fin f.n × Fin 2)
  | .ra => [(0, 0), (0, 1), (1, 0), (1, 1), (2, 0), (2, 1), (3, 0), (3, 1)]
  | .la => [(0, 0), (0, 1), (1, 0), (1, 1), (2, 0), (2, 1)]
  | .rb => [(0, 0), (0, 1), (1, 0), (1, 1), (2, 0), (2, 1)]
  | .lb => [(0, 0), (0, 1), (1, 0), (1, 1), (2, 0), (2, 1), (3, 0), (3, 1)]

/-- The pieces of a stream's buffer. -/
def slots (f : Fam) : List (Fin f.n × Fin 2) := lslots f ++ [(⟨f.seed, seed_lt f⟩, 0), (⟨f.seed, seed_lt f⟩, 1)]

/-- The pieces of a gather buffer. -/
inductive GK
  /-- Half the rows of slot `s`. -/
  | full (s : Fin 3) (p : Fin 2)
  /-- Half the rows and half the columns of slot 3. -/
  | half (p h : Fin 2)
  deriving DecidableEq

/-- Those that copies land in. -/
def lgks (b : Bool) : List GK :=
  [.full 0 0, .full 0 1, .full 1 0, .full 1 1, .full 2 0, .full 2 1, .half 0 (lhalf b), .half 1 (lhalf b)]

/-- The atoms that together make up a piece of a gather buffer at the end. -/
def gA (b : Bool) : GK → List At
  | .full 0 p => [.sr (.ag b p 0), .kG b 0 p]
  | .full 1 p => [.sr (.ag b p 1), .kG b 1 p]
  | .full 2 p => [.sr (.last b p), .kL b p, .kG b 2 p]
  | .half p _ => [.ds (.last b p)]

/-- What a device holds when they are done. -/
def finalA : List At :=
  sends.map .zr ++ sends.map .zs
  ++ (slots .ra).map (fun a => slotA .ra a.1 a.2) ++ (slots .la).map (fun a => slotA .la a.1 a.2)
  ++ (slots .rb).map (fun a => slotA .rb a.1 a.2) ++ (slots .lb).map (fun a => slotA .lb a.1 a.2)
  ++ ([0, 1, 2, 3, 5, 6, 7] : List (Fin 8)).map .ptV
  ++ ([0, 1] : List (Fin 2)).flatMap (fun p => [.sr (.own true p), .sr (.own false p), .kO p])
  ++ (lgks true).flatMap (gA true) ++ (lgks false).flatMap (gA false)
  ++ allOc.map .ouV ++ [.xx]

set_option maxRecDepth 100000 in
theorem ops_run : ((runM ops initA sends).bind fun s => if s.2 = [] then takes finalA s.1 else none) = some [] := by
  decide +kernel

/-! ## Soundness -/

variable (I : Ins F) (c : Dev nD) (K : Dev nD × CI → ℕ) {Q : PUnit → sProp (MT nD τ sig Unit (Elt F) ℕ UU ℕ)}

/-- The program of an operation, on this device's weights. -/
abbrev opP (o : Op) (Kp : Pg F) : Pg F := opProg xMem yMem c (I.w1 c) (w2u I c) (w2v I c) o Kp

theorem rule_local {A B : List At} {l : List Cp} {P Kp : Pg F}
    (h : star (at_ I c) A ⊢ iprop((star (at_ I c) B -∗ run c Kp Q) -∗ run c P Q)) :
    iprop((invs I K ∗ levAts L lv) ∗ star (at_ I c) A ∗ ow c l)
      ⊢ iprop((star (at_ I c) B ∗ ow c l -∗ run c Kp Q) -∗ run c P Q) := by
  iintro ⟨-, HA, HO⟩ Hk
  iapply h $$ HA
  iintro HB
  iapply Hk
  isplitl [HB] <;> iassumption

theorem rule (o : Op) (l l' : List Cp) (h : left o l = some l') (Kp : Pg F) :
    iprop((invs I K ∗ levAts L lv) ∗ star (at_ I c) (pre o) ∗ ow c l)
      ⊢ iprop((star (at_ I c) (post o) ∗ ow c l' -∗ run c Kp Q) -∗ run c (opP I c o Kp) Q) := by
  cases o with
  | send k =>
    cases l with
    | nil => cases h
    | cons k' l =>
      simp only [left] at h
      by_cases e : k = k'
      · rw [if_pos e] at h; cases h; subst e
        refine BIBase.Entails.trans ?_ (rule_send I c K Kp k _)
        iintro ⟨⟨HI, -⟩, HA, HO⟩
        isplitl [HI]; · iexact HI
        isplitl [HA]; · iexact HA
        iexact HO
      · rw [if_neg e] at h; cases h
  | wR k =>
    simp only [left] at h
    by_cases e : (l.all fun k' => decide (rank k < rank k')) = true
    · rw [if_pos e] at h; cases h
      exact rule_wR I c K Kp k l fun k' hk => of_decide_eq_true (List.all_eq_true.mp e k' hk)
    · rw [if_neg e] at h; cases h
  | wS k =>
    simp only [left] at h
    by_cases e : l = []
    · rw [if_pos e] at h; cases h; subst e
      refine BIBase.Entails.trans ?_ (rule_wS I c K Kp k)
      iintro ⟨⟨HI, -⟩, HA, HO⟩
      isplitl [HI]; · iexact HI
      isplitl [HA]; · iexact HA
      iexact HO
    · rw [if_neg e] at h; cases h
  | seed f => cases h; exact rule_local I c K (rule_seed I c Kp f)
  | part i => cases h; exact rule_local I c K (rule_part I c Kp i)
  | add f p s => cases h; exact rule_local I c K (rule_add I c Kp f p s)
  | add3 b p => cases h; exact rule_local I c K (rule_add3 I c Kp b p)
  | own p h' =>
    cases h
    match h' with
    | 0 => exact rule_local I c K (rule_own0 I c Kp p)
    | 1 => exact rule_local I c K (rule_own1 I c Kp p)
  | out => cases h; exact rule_local I c K (rule_out I c Kp)
  | outG b s => cases h; exact rule_local I c K (rule_outG I c Kp b s)
  | outF => cases h; exact rule_local I c K (rule_outF I c Kp)

theorem run_sound (os : List Op) (A A' : List At) (l l' : List Cp) (h : runM os A l = some (A', l')) :
    iprop((invs I K ∗ levAts L lv) ∗ star (at_ I c) A ∗ ow c l)
      ⊢ iprop((star (at_ I c) A' ∗ ow c l' -∗ Q ⟨⟩) -∗ run c (runOps xMem yMem c (I.w1 c) (w2u I c) (w2v I c) os) Q) := by
  induction os generalizing A l with
  | nil =>
    cases h
    iintro ⟨-, HA, HO⟩ Hk
    unfold runOps run
    rw [wp_ret]
    imodintro
    iapply Hk
    isplitl [HA] <;> iassumption
  | cons o os ih =>
    unfold runM at h
    obtain ⟨l₁, h1, h⟩ := Option.bind_eq_some_iff.mp h
    obtain ⟨A₁, h2, h⟩ := Option.bind_eq_some_iff.mp h
    iintro ⟨⟨#HI, #HL⟩, HA, HO⟩ Hk
    icases ((star_perm (at_ I c) (takes_perm h2)).trans (star_append (at_ I c) _ _).1) $$ HA with ⟨Hp, Hr⟩
    unfold runOps
    iapply (rule I c K o l l₁ h1 _) $$ [Hp HO]
    · isplitr
      · isplitl; · iexact HI
        iexact HL
      isplitl [Hp] <;> iassumption
    iintro ⟨Hp, HO⟩
    iapply (ih (post o ++ A₁) l₁ h) $$ [Hp Hr HO]
    · isplitr
      · isplitl; · iexact HI
        iexact HL
      isplitr [HO]
      · iapply (star_append (at_ I c) _ _).2
        isplitl [Hp] <;> iassumption
      iexact HO
    iexact Hk

/-- All the operations of the kernel. -/
theorem ops_sound :
    iprop((invs I K ∗ levAts L lv) ∗ star (at_ I c) initA ∗ ow c sends)
      ⊢ iprop((star (at_ I c) finalA ∗ ow c [] -∗ Q ⟨⟩) -∗ run c (runOps xMem yMem c (I.w1 c) (w2u I c) (w2v I c) ops) Q) := by
  obtain ⟨⟨A', l'⟩, h, h'⟩ := Option.bind_eq_some_iff.mp ops_run
  by_cases e : l' = []
  · rw [if_pos e] at h'
    subst e
    have hp := takes_perm h'
    rw [List.append_nil] at hp
    iintro H Hk
    iapply (run_sound I c K ops initA A' sends [] h) $$ H
    iintro ⟨HA, HO⟩
    iapply Hk
    isplitl [HA]
    · iapply (star_perm (at_ I c) hp); iexact HA
    iexact HO
  · rw [if_neg e] at h'; cases h'

end Cert.KernelIdeal.Ring
-- ==== Proof.Whole.lean ====
/-
  The scratch buffers split into what a device starts with, and put together again at the end.
-/
module

public import proofs.«01_k».proof.Proof.Machine

@[expose] public section

noncomputable section

namespace Cert.KernelIdeal.Ring

open Cert.KernelIdeal Cert.KernelIdeal.Gen Cert.Piece
open Idealize.ShloMosaic Idealize.ShloMosaic.ValueIdx Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open PCS URA Auth

variable {F : FTy → Type} [FloatOps F]

local notation "𝕄" => MT nD τ sig Unit (Elt F) ℕ UU ℕ

variable (I : Ins F) (c : Dev nD)

/-! ## Whole buffers -/

/-- A whole buffer as a piece. -/
theorem whole_slab (b : Ref sig .tc) (q : PosShare TreeShare) (f : b.ty.Contents (Elt F)) :
    (slab (Dev.tc c) (Memref.whole b).view Finset.univ q f : sProp 𝕄) = (((c : Thread nD τ).loc b) ↦{q} f) := by
  have h := slab_of (τ := τ) (Ix := Unit) (Name := ℕ) (U := UU) (Lvl := ℕ) (Dev.tc c) (Memref.whole b).view Finset.univ q f
  rw [View.setOn_univ] at h
  simp only [Memref.view_whole, View.read_whole, View.set_whole] at h
  exact h.symm

theorem whole_junk (b : Ref sig .tc) :
    (junk (Dev.tc c) (Memref.whole b).view Finset.univ : sProp 𝕄)
      ⊣⊢ iprop(∃ f : Buf (Elt F) ((c : Thread nD τ).loc b), ((c : Thread nD τ).loc b) ↦{fullShare} f) := by
  constructor
  · refine exists_elim fun g => ?_
    rw [whole_slab]
    exact exists_intro (Φ := fun f : Buf (Elt F) ((c : Thread nD τ).loc b) => (iprop(((c : Thread nD τ).loc b) ↦{fullShare} f) : sProp 𝕄)) g
  · refine exists_elim fun f => ?_
    rw [← whole_slab]
    exact junk_intro _ _ f

/-- The eight scratch buffers, of any contents. -/
def wholeJ : sProp 𝕄 :=
  iprop(junk (Dev.tc c) pbuf.view Finset.univ ∗ junk (Dev.tc c) (buf .ra).view Finset.univ ∗ junk (Dev.tc c) (buf .la).view Finset.univ
    ∗ junk (Dev.tc c) (buf .rb).view Finset.univ ∗ junk (Dev.tc c) (buf .lb).view Finset.univ ∗ junk (Dev.tc c) obuf.view Finset.univ
    ∗ junk (Dev.tc c) (gbuf true).view Finset.univ ∗ junk (Dev.tc c) (gbuf false).view Finset.univ)

theorem scoped_eq : (Pipeline.scopedRest (Ix := Unit) (Name := ℕ) (U := UU) (Lvl := ℕ) (Val := Elt F) spec0 c : sProp 𝕄) ⊣⊢ wholeJ c := by
  rw [scopedRest0_eq]
  unfold wholeJ
  have e : ∀ {P P' R R' : sProp 𝕄}, (P ⊣⊢ P') → (R ⊣⊢ R') → (iprop(P ∗ R) ⊣⊢ iprop(P' ∗ R')) := fun h h' =>
    ⟨(sep_mono_left h.1).trans (sep_mono_right h'.1), (sep_mono_left h.2).trans (sep_mono_right h'.2)⟩
  have w : ∀ b : Ref sig .tc, (iprop(∃ f : Buf (Elt F) ((c : Thread nD τ).loc b), ((c : Thread nD τ).loc b) ↦{fullShare} f) : sProp 𝕄)
      ⊣⊢ junk (Dev.tc c) (Memref.whole b).view Finset.univ := fun b => ⟨(whole_junk c b).2, (whole_junk c b).1⟩
  exact e (w cc0_scratch0) (e (w cc0_scratch1) (e (w cc0_scratch2) (e (w cc0_scratch3) (e (w cc0_scratch4) (e (w cc0_scratch5)
    (e (w cc0_scratch6) (w cc0_scratch7)))))))

/-! ## The streams' buffers -/

/-- The piece an index of a stream's buffer is in. -/
def scls (f : Fam) (i : (RS f.n).Idx) : Fin f.n × Fin 2 :=
  (i 0, ⟨(i 1).val / 256, by have := (i 1).isLt; change (i 1).val < 512 at this; omega⟩)
/-- The indices of a piece. -/
def sset (f : Fam) (a : Fin f.n × Fin 2) : Finset (RS f.n).Idx := (pcRect f a.1.val a.2 a.1.isLt).set

theorem mem_sset (f : Fam) (a : Fin f.n × Fin 2) (i : (RS f.n).Idx) : i ∈ sset f a ↔ scls f i = a := by
  obtain ⟨s, p⟩ := a
  refine (mem_pc _ _ _ _ _).trans ?_
  exact ⟨fun h => Prod.ext (Fin.ext h.1) (Fin.ext h.2), fun h => ⟨congrArg (fun a => a.1.val) h, congrArg (fun a => a.2.val) h⟩⟩
theorem slots_nodup (f : Fam) : (slots f).Nodup := by cases f <;> decide
theorem mem_slots (f : Fam) (a : Fin f.n × Fin 2) : a ∈ slots f := by revert a; cases f <;> decide

/-- Where copy `k` of the neighbour lands on device `c`. -/
def here (k : Cp) : sProp 𝕄 := junk (Dev.tc c) (dst k).view Finset.univ

/-- The copy that lands in a piece. -/
def slotK (f : Fam) (a : Fin f.n × Fin 2) : Cp := if h : a.1.val < 3 then .rs f a.2 ⟨a.1.val, h⟩ else .rl f.right a.2

theorem here_slot (f : Fam) (a : Fin f.n × Fin 2) (ha : a ∈ lslots f) :
    (junk (Dev.tc c) (buf f).view (sset f a) : sProp 𝕄) ⊢ here c (slotK f a) := by
  obtain ⟨s, p⟩ := a
  unfold slotK
  by_cases h : s.val < 3
  · rw [dif_pos h]
    exact (junk_squeeze (Dev.tc c) (buf f).view (pcRect f s.val p s.isLt) (s' := S256x256) _).2
  · rw [dif_neg h]
    have e : s.val = 3 ∧ f = lfam f.right := by
      revert ha h; revert s p; cases f <;> decide
    have hs := s.isLt
    cases f
    · obtain rfl : s = (3 : Fin 5) := Fin.ext e.1
      exact (junk_squeeze (Dev.tc c) (buf .ra).view (pcRect .ra 3 p (by decide)) (s' := S256x256) _).2
    · exact absurd e.2 (by decide)
    · exact absurd e.2 (by decide)
    · obtain rfl : s = (3 : Fin 5) := Fin.ext e.1
      exact (junk_squeeze (Dev.tc c) (buf .lb).view (pcRect .lb 3 p (by decide)) (s' := S256x256) _).2

theorem stream_split (f : Fam) :
    (junk (Dev.tc c) (buf f).view Finset.univ : sProp 𝕄) ⊢ iprop(star (here c) ((lslots f).map (slotK f)) ∗ at_ I c (.sdJ f)) := by
  refine (junk_split (Dev.tc c) (buf f).view (scls f) (sset f) (mem_sset f) (slots_nodup f)
    (fun i => ⟨fun _ => mem_slots f _, fun _ => Finset.mem_univ _⟩)).trans ?_
  unfold slots
  refine (star_append _ _ _).1.trans ?_
  rw [star_map]
  refine (sep_mono_left (star_mono (here_slot c f))).trans (sep_mono_right ?_)
  simp only [star_cons, star_nil, at_]
  rw [slot_eq]
  iintro ⟨H1, H2, -⟩
  iapply (junk_join (Val := Elt F) (Dev.tc c) (buf f).view (slot_disj f))
  isplitl [H1]; · iexact H1
  iexact H2

theorem slot_done (f : Fam) (a : Fin f.n × Fin 2) : at_ I c (slotA f a.1 a.2) ⊢ junk (Dev.tc c) (buf f).view (sset f a) := by
  obtain ⟨s, p⟩ := a
  have e : ∃ g : (RS f.n).Idx → Elt F .bf16,
      at_ I c (slotA f s p) = slab (Dev.tc c) (buf f).view (sset f (s, p)) fullShare g := by
    cases f
    · match s with
      | 0 => exact ⟨_, snd_rs I c .ra p 1⟩
      | 1 => exact ⟨_, snd_rs I c .ra p 2⟩
      | 2 => exact ⟨_, snd_rl I c true p⟩
      | 3 => exact ⟨_, rcv_rl I c true p⟩
      | 4 => exact ⟨_, snd_rs I c .ra p 0⟩
    · match s with
      | 0 => exact ⟨_, snd_rs I c .la p 1⟩
      | 1 => exact ⟨_, snd_rs I c .la p 2⟩
      | 2 => exact ⟨_, rcv_rs I c .la p 2⟩
      | 3 => exact ⟨_, snd_rs I c .la p 0⟩
    · match s with
      | 0 => exact ⟨_, snd_rs I c .rb p 1⟩
      | 1 => exact ⟨_, snd_rs I c .rb p 2⟩
      | 2 => exact ⟨_, rcv_rs I c .rb p 2⟩
      | 3 => exact ⟨_, snd_rs I c .rb p 0⟩
    · match s with
      | 0 => exact ⟨_, snd_rs I c .lb p 1⟩
      | 1 => exact ⟨_, snd_rs I c .lb p 2⟩
      | 2 => exact ⟨_, snd_rl I c false p⟩
      | 3 => exact ⟨_, rcv_rl I c false p⟩
      | 4 => exact ⟨_, snd_rs I c .lb p 0⟩
  obtain ⟨g, e⟩ := e
  rw [e]
  exact junk_intro _ _ g

theorem stream_merge (f : Fam) : star (at_ I c) ((slots f).map fun a => slotA f a.1 a.2) ⊢ junk (Dev.tc c) (buf f).view Finset.univ := by
  rw [star_map]
  exact (star_mono fun a _ => slot_done I c f a).trans
    (junk_merge (Dev.tc c) (buf f).view (scls f) (sset f) (mem_sset f) (slots_nodup f)
      (fun i => ⟨fun _ => mem_slots f _, fun _ => Finset.mem_univ _⟩))

/-! ## The gather buffers -/

def gcls (i : S4x512x512.Idx) : GK :=
  have h1 : (i 1).val / 256 < 2 := by have := (i 1).isLt; change (i 1).val < 512 at this; omega
  have h2 : (i 2).val / 256 < 2 := by have := (i 2).isLt; change (i 2).val < 512 at this; omega
  if h : (i 0).val < 3 then .full ⟨(i 0).val, h⟩ ⟨(i 1).val / 256, h1⟩ else .half ⟨(i 1).val / 256, h1⟩ ⟨(i 2).val / 256, h2⟩
def gset : GK → Finset S4x512x512.Idx
  | .full s p => (gbRect s p).set
  | .half p h => (ghRect 3 p h).set

theorem mem_gset (a : GK) (i : S4x512x512.Idx) : i ∈ gset a ↔ gcls i = a := by
  have h0 := (i 0).isLt; change (i 0).val < 4 at h0
  unfold gcls
  cases a with
  | full s p =>
    refine (mem_gb _ _ _).trans ?_
    by_cases h : (i 0).val < 3
    · rw [dif_pos h, GK.full.injEq, Fin.ext_iff, Fin.ext_iff]
    · rw [dif_neg h]
      exact ⟨fun h' => absurd (h'.1 ▸ s.isLt) h, fun h' => by cases h'⟩
  | half p q =>
    refine (mem_gh _ _ _ _).trans ?_
    by_cases h : (i 0).val < 3
    · rw [dif_pos h]
      refine ⟨fun h' => ?_, fun h' => by cases h'⟩
      have := h'.1; change (i 0).val = 3 at this; omega
    · rw [dif_neg h, GK.half.injEq, Fin.ext_iff, Fin.ext_iff]
      show (i 0).val = 3 ∧ _ ↔ _
      exact ⟨fun h' => h'.2, fun h' => ⟨by omega, h'⟩⟩

/-- All the pieces of a gather buffer. -/
def gks (b : Bool) : List GK := lgks b ++ [.half 0 (rhalf b), .half 1 (rhalf b)]
theorem gks_nodup (b : Bool) : (gks b).Nodup := by cases b <;> decide
theorem mem_gks (b : Bool) (a : GK) : a ∈ gks b := by
  rcases a with ⟨s, p⟩ | ⟨p, h⟩
  · revert s p; cases b <;> decide
  · revert p h; cases b <;> decide

/-- The copy that lands in a piece. -/
def gK (b : Bool) : GK → Cp
  | .full 0 p => .own b p
  | .full 1 p => .ag b p 0
  | .full 2 p => .ag b p 1
  | .half p _ => .last b p

theorem here_gather (b : Bool) (a : GK) (ha : a ∈ lgks b) :
    (junk (Dev.tc c) (gbuf b).view (gset a) : sProp 𝕄) ⊢ here c (gK b a) := by
  rcases a with ⟨s, p⟩ | ⟨p, h⟩
  · match s with
    | 0 => exact (junk_squeeze (Dev.tc c) (gbuf b).view (gbRect 0 p) (s' := S256x512) _).2
    | 1 => exact (junk_squeeze (Dev.tc c) (gbuf b).view (gbRect 1 p) (s' := S256x512) _).2
    | 2 => exact (junk_squeeze (Dev.tc c) (gbuf b).view (gbRect 2 p) (s' := S256x512) _).2
  · have e : h = lhalf b := by revert ha; revert p h; cases b <;> decide
    subst e
    exact (junk_squeeze (Dev.tc c) (gbuf b).view (ghRect 3 p (lhalf b)) (s' := S256x256) _).2

/-- The part of a gather buffer that is not used. -/
def gRest (b : Bool) : sProp 𝕄 := star (fun a => junk (Dev.tc c) (gbuf b).view (gset a)) [.half 0 (rhalf b), .half 1 (rhalf b)]

theorem gather_split (b : Bool) :
    (junk (Dev.tc c) (gbuf b).view Finset.univ : sProp 𝕄) ⊢ iprop(star (here c) ((lgks b).map (gK b)) ∗ gRest c b) := by
  refine (junk_split (Dev.tc c) (gbuf b).view gcls gset mem_gset (gks_nodup b)
    (fun i => ⟨fun _ => mem_gks b _, fun _ => Finset.mem_univ _⟩)).trans ?_
  unfold gks
  refine (star_append _ _ _).1.trans ?_
  rw [star_map]
  exact sep_mono_left (star_mono (here_gather c b))

theorem gather_done (b : Bool) (a : GK) (ha : a ∈ lgks b) : star (at_ I c) (gA b a) ⊢ junk (Dev.tc c) (gbuf b).view (gset a) := by
  have two : ∀ (s : Fin 3) (p : Fin 2), iprop(slab (Dev.tc c) (gbuf b).view (gbRect s p).set fullShare.left (GV I b c)
      ∗ slab (Dev.tc c) (gbuf b).view (gbRect s p).set fullShare.right (GV I b c))
      ⊢ (junk (Dev.tc c) (gbuf b).view (gbRect s p).set : sProp 𝕄) :=
    fun s p => junk_shares _ _ (PosShare.mem_left_op_right fullShare) _
  rcases a with ⟨s, p⟩ | ⟨p, h⟩
  · match s with
    | 0 =>
      simp only [gA, star_cons, star_nil, at_]
      rw [snd_ag]
      iintro ⟨H1, H2, -⟩
      iapply (two 0 p)
      isplitl [H1]; · iexact H1
      iexact H2
    | 1 =>
      simp only [gA, star_cons, star_nil, at_]
      rw [snd_ag]
      iintro ⟨H1, H2, -⟩
      iapply (two 1 p)
      isplitl [H1]; · iexact H1
      iexact H2
    | 2 =>
      simp only [gA, star_cons, star_nil, at_]
      rw [snd_last]
      iintro ⟨H1, H2, H3, -⟩
      iapply (two 2 p)
      isplitl [H1 H2]
      · rw [gb2_eq b p]
        iapply (slab_union _ _ (gb2_disj b p) _ _).2
        isplitl [H1] <;> iassumption
      iexact H3
  · have e : h = lhalf b := by revert ha; revert p h; cases b <;> decide
    subst e
    refine (star_one (at_ I c) (.ds (.last b p))).1.trans ?_
    simp only [at_]
    rw [rcv_last]
    exact junk_intro _ _ _

theorem gather_merge (b : Bool) :
    iprop(star (at_ I c) ((lgks b).flatMap (gA b)) ∗ gRest c b) ⊢ junk (Dev.tc c) (gbuf b).view Finset.univ := by
  refine (sep_mono_left ((star_flatMap (at_ I c) (gA b) (lgks b)).trans (star_mono (gather_done I c b)))).trans ?_
  exact (star_append _ _ _).2.trans (junk_merge (Dev.tc c) (gbuf b).view gcls gset mem_gset (gks_nodup b)
    (fun i => ⟨fun _ => mem_gks b _, fun _ => Finset.mem_univ _⟩))

/-! ## The partial products and the own rows -/

def pset (o : Fin 8) : Finset S8x512x512.Idx := (pRect o).set
theorem mem_pset (o : Fin 8) (i : S8x512x512.Idx) : i ∈ pset o ↔ (i 0 : Fin 8) = o := (mem_p o i).trans Fin.ext_iff.symm

/-- The place that is not used. -/
def pRest : sProp 𝕄 := junk (Dev.tc c) pbuf.view (pset 4)

theorem p_split : (junk (Dev.tc c) pbuf.view Finset.univ : sProp 𝕄)
    ⊢ iprop(star (at_ I c) (([0, 1, 2, 3, 5, 6, 7] : List (Fin 8)).map .ptJ) ∗ pRest c) := by
  refine (junk_split (Dev.tc c) pbuf.view (fun i => (i 0 : Fin 8)) pset mem_pset (l := [0, 1, 2, 3, 5, 6, 7] ++ [4]) (by decide)
    (fun i => ⟨fun _ => (by decide : ∀ o : Fin 8, o ∈ ([0, 1, 2, 3, 5, 6, 7] ++ [4] : List (Fin 8))) _, fun _ => Finset.mem_univ _⟩)).trans ?_
  refine (star_append _ _ _).1.trans ?_
  rw [star_map]
  exact sep_mono_right (star_one _ _).1

theorem p_merge : iprop(star (at_ I c) (([0, 1, 2, 3, 5, 6, 7] : List (Fin 8)).map .ptV) ∗ pRest c)
    ⊢ (junk (Dev.tc c) pbuf.view Finset.univ : sProp 𝕄) := by
  refine BIBase.Entails.trans ?_ (junk_merge (Dev.tc c) pbuf.view (fun i => (i 0 : Fin 8)) pset mem_pset (l := [0, 1, 2, 3, 5, 6, 7] ++ [4]) (by decide)
    (fun i => ⟨fun _ => (by decide : ∀ o : Fin 8, o ∈ ([0, 1, 2, 3, 5, 6, 7] ++ [4] : List (Fin 8))) _, fun _ => Finset.mem_univ _⟩))
  refine BIBase.Entails.trans ?_ (star_append _ _ _).2
  rw [star_map]
  exact (sep_mono_left (star_mono fun o _ => junk_intro _ _ (PV I c))).trans (sep_mono_right (star_one _ _).2)

def ocls (i : S512x512.Idx) : Fin 2 × Fin 2 :=
  (⟨(i 0).val / 256, by have := (i 0).isLt; change (i 0).val < 512 at this; omega⟩,
   ⟨(i 1).val / 256, by have := (i 1).isLt; change (i 1).val < 512 at this; omega⟩)
def oset (a : Fin 2 × Fin 2) : Finset S512x512.Idx := (oRect a.1 a.2).set
theorem mem_oset (a : Fin 2 × Fin 2) (i : S512x512.Idx) : i ∈ oset a ↔ ocls i = a := by
  obtain ⟨p, h⟩ := a
  refine (mem_o _ _ _).trans ?_
  unfold ocls
  rw [Prod.mk.injEq, Fin.ext_iff, Fin.ext_iff]

theorem o_split : (junk (Dev.tc c) obuf.view Finset.univ : sProp 𝕄)
    ⊢ star (at_ I c) (([(0, 0), (0, 1), (1, 0), (1, 1)] : List (Fin 2 × Fin 2)).map (fun a => .owJ a.1 a.2)) := by
  rw [star_map]
  exact junk_split (Dev.tc c) obuf.view ocls oset mem_oset (l := [(0, 0), (0, 1), (1, 0), (1, 1)]) (by decide)
    (fun i => ⟨fun _ => (by decide : ∀ a : Fin 2 × Fin 2, a ∈ ([(0, 0), (0, 1), (1, 0), (1, 1)] : List (Fin 2 × Fin 2))) _, fun _ => Finset.mem_univ _⟩)

theorem o_merge : star (at_ I c) (([0, 1] : List (Fin 2)).flatMap (fun p => [.sr (.own true p), .sr (.own false p), .kO p]))
    ⊢ (junk (Dev.tc c) obuf.view Finset.univ : sProp 𝕄) := by
  have one : ∀ p : Fin 2, star (at_ I c) [.sr (.own true p), .sr (.own false p), .kO p] ⊢ (junk (Dev.tc c) obuf.view (obRect p).set : sProp 𝕄) := fun p => by
    simp only [star_cons, star_nil, at_]
    rw [snd_own, snd_own]
    iintro ⟨H1, H2, H3, -⟩
    iapply (junk_shares _ _ (PosShare.mem_left_op_right fullShare) (OV I c))
    isplitl [H1 H2]
    · iapply (slab_share _ _ (PosShare.mem_left_op_right fullShare.left) _).2
      isplitl [H1]; · iexact H1
      iexact H2
    iexact H3
  refine (star_flatMap _ _ _).trans ((star_mono fun p _ => one p).trans ?_)
  rw [oAll_eq]
  simp only [star_cons, star_nil]
  iintro ⟨H1, H2, -⟩
  iapply (junk_join (Val := Elt F) (Dev.tc c) obuf.view oAll_disj)
  isplitl [H1] <;> iassumption

/-! ## The output -/

def yset (d : Dev nD) : Finset S4096x256.Idx := Finset.univ.filter fun i => (i 0).val / 512 = d.val
def ycls (i : S4096x256.Idx) : Dev nD :=
  ⟨(i 0).val / 512, by have := (i 0).isLt; change (i 0).val < 4096 at this; change _ < 8; omega⟩
theorem mem_yset (d : Dev nD) (i : S4096x256.Idx) : i ∈ yset d ↔ ycls i = d := by
  unfold yset ycls; rw [Finset.mem_filter, Fin.ext_iff]; exact ⟨fun h => h.2, fun h => ⟨Finset.mem_univ _, h⟩⟩
theorem yset_eq (q : Oc) : (yRect c q).set = yset (ocDev c q) := by
  ext i; exact (mem_y c q i).trans ((Fin.ext_iff (a := ycls i) (b := ocDev c q)).symm.trans (mem_yset _ _).symm)

theorem oc_nodup : ∀ c : Dev nD, (allOc.map (ocDev c)).Nodup := by decide +kernel
theorem mem_oc : ∀ (c d : Dev nD), d ∈ allOc.map (ocDev c) := by decide +kernel

theorem y_split : (junk (Dev.tc c) yMem.view Finset.univ : sProp 𝕄) ⊢ star (at_ I c) (allOc.map .ouJ) := by
  refine (junk_split (Dev.tc c) yMem.view ycls yset mem_yset (oc_nodup c) (fun i => ⟨fun _ => mem_oc c _, fun _ => Finset.mem_univ _⟩)).trans ?_
  rw [star_map, star_map]
  refine star_mono fun q _ => ?_
  simp only [at_]
  rw [yset_eq]

theorem y_merge : star (at_ I c) (allOc.map .ouV) ⊢ (slab (Dev.tc c) yMem.view Finset.univ fullShare (OUT I c) : sProp 𝕄) := by
  refine BIBase.Entails.trans ?_ (slab_split (Dev.tc c) yMem.view ycls yset mem_yset fullShare (OUT I c) (oc_nodup c)
    (fun i => ⟨fun _ => mem_oc c _, fun _ => Finset.mem_univ _⟩)).2
  rw [star_map, star_map]
  refine star_mono fun q _ => ?_
  simp only [at_]
  rw [yset_eq]

/-! ## Start and end -/

/-- What the kernel never touches. -/
def rest : sProp 𝕄 := iprop(pRest c ∗ gRest c true ∗ gRest c false)

/-- Where the copies land, in the buffers' order. -/
def landOrd : List Cp :=
  (lslots .ra).map (slotK .ra) ++ (lslots .la).map (slotK .la) ++ (lslots .rb).map (slotK .rb) ++ (lslots .lb).map (slotK .lb)
    ++ (lgks true).map (gK true) ++ (lgks false).map (gK false)
theorem landOrd_perm : landOrd.Perm (sendsB true ++ sendsB false) := by decide +kernel
theorem sends_perm : (sendsB false ++ sendsB true).Perm sends := by decide +kernel

theorem whole_split : (wholeJ c : sProp 𝕄)
    ⊢ iprop(star (here c) (sendsB true) ∗ star (here c) (sendsB false) ∗ star (at_ I c) bufA ∗ rest c) := by
  unfold wholeJ rest
  iintro ⟨Hp, Hra, Hla, Hrb, Hlb, Ho, Hg, Hh⟩
  icases (p_split I c) $$ Hp with ⟨Hp, Rp⟩
  icases (stream_split I c .ra) $$ Hra with ⟨Hra, Sra⟩
  icases (stream_split I c .la) $$ Hla with ⟨Hla, Sla⟩
  icases (stream_split I c .rb) $$ Hrb with ⟨Hrb, Srb⟩
  icases (stream_split I c .lb) $$ Hlb with ⟨Hlb, Slb⟩
  ihave Ho := (o_split I c) $$ Ho
  icases (gather_split c true) $$ Hg with ⟨Hg, Rg⟩
  icases (gather_split c false) $$ Hh with ⟨Hh, Rh⟩
  ihave HL := ((star_append (here c) _ _).2.trans ((star_perm (here c) landOrd_perm).trans (star_append (here c) _ _).1)) $$ [Hra Hla Hrb Hlb Hg Hh]
  · isplitr [Hh]
    · iapply (star_append (here c) _ _).2
      isplitr [Hg]
      · iapply (star_append (here c) _ _).2
        isplitr [Hlb]
        · iapply (star_append (here c) _ _).2
          isplitr [Hrb]
          · iapply (star_append (here c) _ _).2
            isplitl [Hra] <;> iassumption
          iexact Hrb
        iexact Hlb
      iexact Hg
    iexact Hh
  icases HL with ⟨H1, H2⟩
  isplitl [H1]; · iexact H1
  isplitl [H2]; · iexact H2
  isplitl [Sra Sla Srb Slb Hp Ho]
  · unfold bufA
    iapply (star_append (at_ I c) _ _).2
    isplitr [Ho]
    · iapply (star_append (at_ I c) _ _).2
      isplitr [Hp]
      · rw [star_map]
        simp only [star_cons, star_nil]
        isplitl [Sra]; · iexact Sra
        isplitl [Sla]; · iexact Sla
        isplitl [Srb]; · iexact Srb
        isplitl [Slb]; · iexact Slb
        iempintro
      iexact Hp
    iexact Ho
  isplitl [Rp]; · iexact Rp
  isplitl [Rg] <;> iassumption

/-- What is left when the kernel is done: the semaphores at zero, the scratch buffers, the output and the argument. -/
theorem final_split : iprop(star (at_ I c) finalA ∗ rest c)
    ⊢ (iprop(star (fun k => semVal (rcell k c) 0) sends ∗ star (fun k => semVal (scell k c) 0) sends ∗ wholeJ c
      ∗ slab (Dev.tc c) yMem.view Finset.univ fullShare (OUT I c) ∗ slab (Dev.tc c) xMem.view Finset.univ fullShare (I.x c)) : sProp 𝕄) := by
  unfold finalA rest wholeJ
  iintro ⟨H, Rp, Rg, Rh⟩
  icases (star_append (at_ I c) _ _).1 $$ H with ⟨H, Hx⟩
  icases (star_append (at_ I c) _ _).1 $$ H with ⟨H, Hy⟩
  icases (star_append (at_ I c) _ _).1 $$ H with ⟨H, Hh⟩
  icases (star_append (at_ I c) _ _).1 $$ H with ⟨H, Hg⟩
  icases (star_append (at_ I c) _ _).1 $$ H with ⟨H, Ho⟩
  icases (star_append (at_ I c) _ _).1 $$ H with ⟨H, Hp⟩
  icases (star_append (at_ I c) _ _).1 $$ H with ⟨H, Hlb⟩
  icases (star_append (at_ I c) _ _).1 $$ H with ⟨H, Hrb⟩
  icases (star_append (at_ I c) _ _).1 $$ H with ⟨H, Hla⟩
  icases (star_append (at_ I c) _ _).1 $$ H with ⟨H, Hra⟩
  icases (star_append (at_ I c) _ _).1 $$ H with ⟨Hr, Hs⟩
  isplitl [Hr]
  · iapply ((Entails.of_eq (star_map (at_ I c) .zr sends)).trans
      (star_mono fun k _ => (show at_ I c (.zr k) ⊢ (semVal (rcell k c) 0 : sProp 𝕄) from .rfl)))
    iexact Hr
  isplitl [Hs]
  · iapply ((Entails.of_eq (star_map (at_ I c) .zs sends)).trans
      (star_mono fun k _ => (show at_ I c (.zs k) ⊢ (semVal (scell k c) 0 : sProp 𝕄) from .rfl)))
    iexact Hs
  isplitr [Hx Hy]
  · isplitl [Hp Rp]
    · iapply (p_merge I c); isplitl [Hp] <;> iassumption
    isplitl [Hra]; · iapply (stream_merge I c .ra); iexact Hra
    isplitl [Hla]; · iapply (stream_merge I c .la); iexact Hla
    isplitl [Hrb]; · iapply (stream_merge I c .rb); iexact Hrb
    isplitl [Hlb]; · iapply (stream_merge I c .lb); iexact Hlb
    isplitl [Ho]; · iapply (o_merge I c); iexact Ho
    isplitl [Hg Rg]
    · iapply (gather_merge I c true); isplitl [Hg] <;> iassumption
    · iapply (gather_merge I c false); isplitl [Hh] <;> iassumption
  isplitl [Hy]; · iapply (y_merge I c); iexact Hy
  iapply ((star_one (at_ I c) .xx).1.trans (show at_ I c .xx ⊢ (slab (Dev.tc c) xMem.view Finset.univ fullShare (I.x c) : sProp 𝕄) from .rfl))
  iexact Hx

end Cert.KernelIdeal.Ring
-- ==== Proof.Sound.lean ====
/-
  One device's run of the kernel body: the two signals, the barrier, the weights, the operations.
-/
module

public import proofs.«01_k».proof.Proof.Whole

@[expose] public section

noncomputable section

namespace Cert.KernelIdeal.Ring

open Cert.KernelIdeal Cert.KernelIdeal.Gen Cert.Piece
open Idealize.ShloMosaic Idealize.ShloMosaic.ValueIdx Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open PCS URA Auth

variable {F : FTy → Type} [FloatOps F]

local notation "𝕄" => MT nD τ sig Unit (Elt F) ℕ UU ℕ

variable (I : Ins F) (K : Dev nD × CI → ℕ) (c : Dev nD)

theorem dev1_eq (c : Dev nD) : (⟨k0_dev1 c, k0_dev1_lt c⟩ : Dev nD) = devL c := Fin.ext ((k0_dev1_eq c).trans (k0_dev5_eq c).symm)
theorem dev2_eq (c : Dev nD) : (⟨k0_dev2 c, k0_dev2_lt c⟩ : Dev nD) = devR c := Fin.ext ((k0_dev2_eq c).trans (k0_dev3_eq c).symm)

/-! ## What a device starts from -/

/-- Every cell is at its first round. -/
def marks : sProp 𝕄 := bigSep Finset.univ fun ci : Dev nD × CI => reached ER (kcell ci) 0
instance marks_persistent : BI.Persistent (marks (F := F)) := by unfold marks; infer_instance
theorem mark (ci : Dev nD × CI) : (marks : sProp 𝕄) ⊢ reached ER (kcell ci) 0 := bigSep_elim (Finset.mem_univ ci)

/-- The device's place at its own cells. -/
def places : sProp 𝕄 :=
  iprop(atPos ER (barCell c) 0 ∅ 0 ∗ star (fun k => atPos ER (rcell k c) 0 ∅ 0) sends ∗ star (fun k => atPos ER (scell k c) 0 ∅ 0) sends)

/-- The duties the device pays. -/
def pays : sProp 𝕄 :=
  iprop(dutyTok ER (barCell (devL c)) 0 true ∗ dutyTok ER (barCell (devR c)) 0 false
    ∗ star (fun k => dutyTok ER (rcell k (tgt k c)) 0 false) sends ∗ star (fun k => dutyTok ER (scell k c) 0 false) sends)

/-- What the device may wait for. -/
def creds : sProp 𝕄 :=
  iprop(cred (tallyAt (barCell c) () 2) ∗ star (fun k => cred (tallyAt (rcell k c) () (NK k))) sends)

def ghost : sProp 𝕄 := iprop((invs I K ∗ marks) ∗ places c ∗ pays c)

/-- What the device holds when it starts. -/
def start : sProp 𝕄 := iprop((∃ K, ghost I K c) ∗ creds c ∗ levAts L lv)

/-- The semaphores and the scratch buffers when the device is done. -/
def done : sProp 𝕄 :=
  iprop(semVal (barCell c) 0 ∗ (star (fun k => semVal (rcell k c) 0) sends ∗ star (fun k => semVal (scell k c) 0) sends) ∗ wholeJ c)

theorem land_here (b : Bool) (c d : Dev nD) (h : ∀ k, k.right = b → tgt k d = c) :
    star (here c) (sendsB b) ⊢ (barPay b d : sProp 𝕄) := by
  unfold barPay
  refine star_mono fun k hk => ?_
  have hb : k.right = b := by
    have := (List.mem_filter.mp hk).2
    exact eq_of_beq this
  unfold here land
  rw [h k hb]

theorem tgt_left (k : Cp) (hk : k.right = true) : tgt k (devL c) = c := by unfold tgt; rw [hk]; exact devR_devL c
theorem tgt_right (k : Cp) (hk : k.right = false) : tgt k (devR c) = c := by unfold tgt; rw [hk]; exact devL_devR c

/-- The tokens of the copies. -/
theorem toks_intro :
    iprop(marks ∗ star (fun k => dutyTok ER (rcell k (tgt k c)) 0 false) sends ∗ star (fun k => dutyTok ER (scell k c) 0 false) sends)
      ⊢ (star (fun k => tokP c k) sends : sProp 𝕄) := by
  refine (sep_mono_right (star_sep _ _ _).2).trans (star_with fun k => ?_)
  unfold tokP
  iintro ⟨#HR, H1, H2⟩
  isplitl [H2]; · iexact H2
  isplitr; · iapply (mark (c, some (false, k))); iexact HR
  isplitl [H1]; · iexact H1
  iapply (mark (tgt k c, some (true, k))); iexact HR

/-- The atoms at the start. -/
theorem init_intro :
    iprop(star (fun k => land k c) sends ∗ star (fun k => tokP c k) sends
        ∗ (star (fun k => cred (tallyAt (rcell k c) () (NK k))) sends ∗ star (fun k => atPos ER (rcell k c) 0 ∅ 0) sends)
        ∗ star (fun k => atPos ER (scell k c) 0 ∅ 0) sends ∗ star (at_ I c) bufA ∗ star (at_ I c) (allOc.map .ouJ)
        ∗ slab (Dev.tc c) xMem.view Finset.univ fullShare (I.x c))
      ⊢ (star (at_ I c) initA : sProp 𝕄) := by
  unfold initA
  have m : ∀ {Φ : Cp → sProp 𝕄} {f : Cp → At}, (∀ k, Φ k ⊢ at_ I c (f k)) → star Φ sends ⊢ star (at_ I c) (sends.map f) := fun h => by
    rw [star_map]; exact star_mono fun k _ => h k
  iintro ⟨H1, H2, H3, H4, H5, H6, H7⟩
  iapply (star_append (at_ I c) _ _).2
  isplitr [H7]
  · iapply (star_append (at_ I c) _ _).2
    isplitr [H6]
    · iapply (star_append (at_ I c) _ _).2
      isplitr [H5]
      · iapply (star_append (at_ I c) _ _).2
        isplitr [H4]
        · iapply (star_append (at_ I c) _ _).2
          isplitr [H3]
          · iapply (star_append (at_ I c) _ _).2
            isplitl [H1]
            · iapply (m (Φ := fun k => land k c) (f := .land) fun k => .rfl); iexact H1
            · iapply (m (Φ := fun k => tokP c k) (f := .tok) fun k => .rfl); iexact H2
          · iapply ((star_sep _ _ _).2.trans (m (f := .rcv) fun k => .rfl)); iexact H3
        · iapply (m (Φ := fun k => atPos ER (scell k c) 0 ∅ 0) (f := .snd) fun k => .rfl); iexact H4
      iexact H5
    iexact H6
  · iapply ((show (slab (Dev.tc c) xMem.view Finset.univ fullShare (I.x c) : sProp 𝕄) ⊢ at_ I c .xx from .rfl).trans (star_one (at_ I c) .xx).2)
    iexact H7

theorem w1_eq (g : S512x512.Idx → Elt F .bf16) :
    (fun i => g ((Rect.unit (s := S512x512) ![0, 0] S512x512.size inb_S512x512_S512x512_0_0).emb i)) = g := by
  refine funext fun i => congrArg g (funext fun a => Fin.ext ?_)
  rw [Rect.emb_apply]
  match a with
  | 0 => show 0 + 1 * (i 0).val = (i 0).val; omega
  | 1 => show 0 + 1 * (i 1).val = (i 1).val; omega
theorem w2u_eq : (fun i => I.w2 c ((Rect.unit (s := S512x256) ![0, 0] S256x256.size inb_S512x256_S256x256_0_0).emb i)) = w2u I c := rfl
theorem w2v_eq : (fun i => I.w2 c ((Rect.unit (s := S512x256) ![256, 0] S256x256.size inb_S512x256_S256x256_256_0).emb i)) = w2v I c := rfl

/-! ## The body -/

abbrev w1Mem : Memref sig .tc .vmem S512x512 .bf16 := Memref.whole cc0_stg1_0
abbrev w2Mem : Memref sig .tc .vmem S512x256 .bf16 := Memref.whole cc0_stg2_0

/-- The body of one device: it leaves its arguments in place, the output computed, every semaphore at zero and nothing owed. -/
theorem sound (W : Waits sig Unit) {Q : PUnit → sProp (MT nD τ sig Unit (Elt F) ℕ UU ℕ)} :
    iprop(ghost I K c ∗ creds c ∗ levAts L lv ∗ wholeJ c ∗ owes (c : Thread nD τ) (O₀ c) W
        ∗ slab (Dev.tc c) xMem.view Finset.univ fullShare (I.x c) ∗ slab (Dev.tc c) w1Mem.view Finset.univ fullShare (I.w1 c)
        ∗ slab (Dev.tc c) w2Mem.view Finset.univ fullShare (I.w2 c) ∗ junk (Dev.tc c) yMem.view Finset.univ)
      ⊢ iprop(((done c ∗ (∃ W', owes (c : Thread nD τ) 0 W')
          ∗ slab (Dev.tc c) xMem.view Finset.univ fullShare (I.x c) ∗ slab (Dev.tc c) w1Mem.view Finset.univ fullShare (I.w1 c)
          ∗ slab (Dev.tc c) w2Mem.view Finset.univ fullShare (I.w2 c) ∗ slab (Dev.tc c) yMem.view Finset.univ fullShare (OUT I c)) -∗ Q ⟨⟩)
        -∗ run c (body xMem w1Mem w2Mem yMem) Q) := by
  unfold ghost places pays creds run body
  simp only [semSignalWord, semWaitWord, Prog.lift, Prog.bind_op, Prog.bind_ret, Prog.pure_eq_ret, wp_deviceId]
  simp only [dev1_eq c, dev2_eq c]
  iintro ⟨⟨⟨#HI, #HR⟩, ⟨HaB, HaR, HaS⟩, HtL, HtR, HtA, HtD⟩, ⟨HcB, HcR⟩, #HL, Hw, HO, Hx, Hw1, Hw2, Hy⟩ Hk
  icases (whole_split I c) $$ Hw with ⟨HhT, HhF, Hbuf, Hrest⟩
  iapply (Rounds.wp_signal 𝒱₀ ER (Rd I) (c : Thread nD τ) none (dst := (devL c : Thread nD τ)) (κ := K (devL c, none))
      (d := true) (by rw [duties_bar]; exact Finset.mem_univ _) ((amount_bar I (devL c) true).trans (by decide)) () (O₁ c) rfl)
    $$ [HO HtL HhT]
  · isplitr; · iapply (inv_b I K (devL c)); iexact HI
    isplitl [HO]; · iexact HO
    isplitl [HtL]; · iexact HtL
    isplitl [HhT]
    · rw [payload_bar]
      iapply (land_here true c (devL c) (tgt_left c)); iexact HhT
    · iapply (mark (devL c, none)); iexact HR
  iintro HO
  unfold O₁
  iapply (Rounds.wp_signal 𝒱₀ ER (Rd I) (c : Thread nD τ) none (dst := (devR c : Thread nD τ)) (κ := K (devR c, none))
      (d := false) (by rw [duties_bar]; exact Finset.mem_univ _) ((amount_bar I (devR c) false).trans (by decide)) () (owedL c sends) rfl)
    $$ [HO HtR HhF]
  · isplitr; · iapply (inv_b I K (devR c)); iexact HI
    isplitl [HO]; · iexact HO
    isplitl [HtR]; · iexact HtR
    isplitl [HhF]
    · rw [payload_bar]
      iapply (land_here false c (devR c) (tgt_right c)); iexact HhF
    · iapply (mark (devR c, none)); iexact HR
  iintro HO
  iapply (Rounds.wp_wait_rest_token 𝒱₀ ER (Rd I) (c : Thread nD τ) none (κ := K (c, none))
      (wpE_semWait_eq 𝒱₀ (c : Thread nD τ) none Set.univ) (Set.mem_univ _) () (O := owedL c sends) (W := W) (R := 0) (m := 0) (T := ∅)
      (by rw [expect_bar]; decide)) $$ [HcB HO HaB]
  · isplitr; · iapply (inv_b I K c); iexact HI
    isplitl [HcB]; · iexact HcB
    isplitl [HO]; · iexact HO
    isplitr; · iapply (mayWait_bar c); iexact HL
    iexact HaB
  iintro ⟨HO, HaB, -, Hpay⟩
  ihave Hp := (Entails.of_eq (rest_bar I c)) $$ Hpay
  ihave Hland := (show iprop(barPay false c ∗ barPay true c) ⊢ (star (fun k => land k c) sends : sProp 𝕄) from by
      unfold barPay; exact (star_append (fun k => land (F := F) k c) _ _).2.trans (star_perm _ sends_perm)) $$ Hp
  imod (Rounds.cell_close ER (Rd I) (Set.mem_univ (K (c, none))) (fun h => h) (R := 0 + 1) (duties_later I (barCell c))) $$ [HaB] with HzB
  · isplitr; · iapply (inv_b I K c); iexact HI
    iexact HaB
  iapply (wp_load_slab 𝒱₀ (Dev.tc c : Thread nD τ) none Set.univ (m := w1Mem) (Finset.subset_univ _)) $$ Hw1
  iintro Hw1
  iapply (wp_load_slab 𝒱₀ (Dev.tc c : Thread nD τ) none Set.univ (m := w2Mem) (Finset.subset_univ _)) $$ Hw2
  iintro Hw2
  iapply (wp_load_slab 𝒱₀ (Dev.tc c : Thread nD τ) none Set.univ (m := w2Mem) (Finset.subset_univ _)) $$ Hw2
  iintro Hw2
  rw [w1_eq, w2u_eq, w2v_eq]
  ihave Htok := (toks_intro c) $$ [HtA HtD]
  · isplitr; · iexact HR
    isplitl [HtA] <;> iassumption
  ihave Hou := (y_split I c) $$ Hy
  ihave Hin := (init_intro I c) $$ [Hland Htok HcR HaR HaS Hbuf Hou Hx]
  · isplitl [Hland]; · iexact Hland
    isplitl [Htok]; · iexact Htok
    isplitl [HcR HaR]
    · isplitl [HcR] <;> iassumption
    isplitl [HaS]; · iexact HaS
    isplitl [Hbuf]; · iexact Hbuf
    isplitl [Hou] <;> iassumption
  iapply (ops_sound (Q := Q) I c K) $$ [Hin HO]
  · isplitr
    · isplitr; · iexact HI
      iexact HL
    isplitl [Hin]; · iexact Hin
    unfold ow
    iexists _; iexact HO
  iintro ⟨Hf, HO⟩
  icases (final_split I c) $$ [Hf Hrest] with ⟨Hzr, Hzs, Hw, Hy, Hx⟩
  · isplitl [Hf] <;> iassumption
  iapply Hk
  unfold done ow
  isplitl [HzB Hzr Hzs Hw]
  · isplitl [HzB]; · iexact HzB
    isplitl [Hzr Hzs]
    · isplitl [Hzr] <;> iassumption
    iexact Hw
  isplitl [HO]; · iexact HO
  isplitl [Hx]; · iexact Hx
  isplitl [Hw1]; · iexact Hw1
  isplitl [Hw2] <;> iassumption

end Cert.KernelIdeal.Ring
-- ==== Proof.Body.lean ====
/-
  The printed kernel body is the list of operations, by definitional unfolding.
-/
module

public import proofs.«01_k».proof.Proof.Ring

@[expose] public section

noncomputable section

namespace Cert.KernelIdeal.Ring

open Cert.KernelIdeal Cert.KernelIdeal.Gen
open Idealize.ShloMosaic Idealize.ShloMosaic.TcCoe Idealize.SL Idealize.SL.Sem

variable {F : FTy → Type} [FloatOps F]

set_option maxRecDepth 65536 in
/-- The body at the launch's arguments. -/
theorem body_eq (x : Memref sig .tc .vmem S4096x512 .bf16) (hx : x.IsWhole)
    (a1 : Memref sig .tc .vmem S512x512 .bf16) (h1 : a1.IsWhole)
    (a2 : Memref sig .tc .vmem S512x256 .bf16) (h2 : a2.IsWhole)
    (y : Memref sig .tc .vmem S4096x256 .f32) (hy : y.IsWhole) :
    cc0_body (F := F) x hx a1 h1 a2 h2 y hy
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      cc0_scratch8 cc0_scratch9 cc0_scratch10 cc0_scratch11 cc0_scratch12 cc0_scratch13 cc0_scratch14 cc0_scratch15
      cc0_scratch16 cc0_scratch17 cc0_scratch18 cc0_scratch19
    = body x a1 a2 y := by
  chain_rfl

end Cert.KernelIdeal.Ring
-- ==== Proof.Deal.lean ====
/-
  The launch: the cells' resources dealt to the devices, the credit they start with, and the run of
  the whole program on every device.
-/
module

public import proofs.«01_k».proof.Proof.Sound
public import proofs.«01_k».proof.Proof.Body
public import Idealize.ShloMosaic.Lib.Pipeline.CollectiveSegs

@[expose] public section

noncomputable section

namespace Cert.KernelIdeal.Ring

open Cert.KernelIdeal Cert.KernelIdeal.Gen Cert.Piece
open Idealize.ShloMosaic Idealize.ShloMosaic.ValueIdx Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS URA Auth

variable {F : FTy → Type} [FloatOps F]

local notation "𝕄" => MT nD τ sig Unit (Elt F) ℕ UU ℕ

variable (m : (ℓ : Loc nD τ sig) → Buf (Elt F) ℓ) (ρ : Dev nD → PrngReg)

/-- The devices' arguments, out of the memory. -/
def insOf : Ins F where
  x c := (win0_0.blk (0 : Fin 1)).view.read (Elt F) (m ((c : Thread nD τ).loc main_arg0))
  w1 c := (win0_1.blk (0 : Fin 1)).view.read (Elt F) (m ((c : Thread nD τ).loc main_arg1))
  w2 c := (win0_2.blk (0 : Fin 1)).view.read (Elt F) (m ((c : Thread nD τ).loc main_arg2))

/-! ## The body's obligation -/

def Φ₀ (c : Dev nD) : sProp 𝕄 := iprop(start (insOf m) c ∗ wholeJ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m).x c
    | ⟨1, _⟩ => (insOf m).w1 c
    | ⟨2, _⟩ => (insOf m).w2 c
    | ⟨3, _⟩ => OUT (insOf m) c
  Φ t := match t with
    | ⟨0, _⟩ => Φ₀ m c
    | ⟨_ + 1, _⟩ => done c
  q _ := fullShare
  owed t := match t with
    | ⟨0, _⟩ => O₀ c
    | ⟨_ + 1, _⟩ => 0

theorem fin_N (t : Fin cfg0.N) : t = t0_0 := by
  obtain ⟨t, ht⟩ := t
  have h : cfg0.N = 1 := by decide
  exact Fin.ext (by show t = 0; omega)

theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

theorem owns_slab (c : Dev nD) (b : Ref sig .tc) (X : b.ty.Contents (Elt F)) :
    (owns (Ix := Unit) (Name := ℕ) (U := UU) (Lvl := ℕ) (c : Thread nD τ) (Memref.whole b) fullShare X : sProp 𝕄)
      ⊣⊢ slab (Dev.tc c) (Memref.whole b).view Finset.univ fullShare X := by
  rw [whole_slab]
  unfold owns; simp only [Memref.view_whole, View.read_whole, View.set_whole]
  constructor
  · iintro ⟨%f, %h, H⟩; subst h; iexact H
  · iintro H; iexists X; isplitr; · (ipureintro; rfl)
    iexact H

section Body

/-- The body's resources before. -/
def bodyPre (c : Dev nD) : sProp 𝕄 :=
  iprop(Φ₀ m c ∗ (dats m ρ 0 c).owesAt () t0_0.castSucc
    ∗ (∃ d, owns (c : Thread nD τ) xMem fullShare ((dats m ρ 0 c).before (0 : Fin 4) t0_0 d))
    ∗ (∃ d, owns (c : Thread nD τ) w1Mem fullShare ((dats m ρ 0 c).before (1 : Fin 4) t0_0 d))
    ∗ (∃ d, owns (c : Thread nD τ) w2Mem fullShare ((dats m ρ 0 c).before (2 : Fin 4) t0_0 d))
    ∗ (∃ d, owns (c : Thread nD τ) yMem fullShare ((dats m ρ 0 c).before (3 : Fin 4) t0_0 d)))
/-- The body's resources after. -/
def bodyPost (c : Dev nD) : sProp 𝕄 :=
  iprop(done c ∗ (dats m ρ 0 c).owesAt () t0_0.succ
    ∗ owns (c : Thread nD τ) xMem fullShare ((insOf m).x c) ∗ owns (c : Thread nD τ) w1Mem fullShare ((insOf m).w1 c)
    ∗ owns (c : Thread nD τ) w2Mem fullShare ((insOf m).w2 c) ∗ owns (c : Thread nD τ) yMem fullShare (OUT (insOf m) c))

theorem before_x (c : Dev nD) (d) : (dats m ρ 0 c).before (0 : Fin 4) t0_0 d = (insOf m).x c := by
  unfold Dat.before; rw [if_pos (show (cfg0.win (0 : Fin 4)).fetch t0_0 = true from rfl)]; rfl
theorem before_w1 (c : Dev nD) (d) : (dats m ρ 0 c).before (1 : Fin 4) t0_0 d = (insOf m).w1 c := by
  unfold Dat.before; rw [if_pos (show (cfg0.win (1 : Fin 4)).fetch t0_0 = true from rfl)]; rfl
theorem before_w2 (c : Dev nD) (d) : (dats m ρ 0 c).before (2 : Fin 4) t0_0 d = (insOf m).w2 c := by
  unfold Dat.before; rw [if_pos (show (cfg0.win (2 : Fin 4)).fetch t0_0 = true from rfl)]; rfl

theorem body_run (c : Dev nD) :
    bodyPre m ρ c ⊢ run c (body xMem w1Mem w2Mem yMem) (fun _ => bodyPost m ρ c) := by
  unfold bodyPre Φ₀ start
  iintro ⟨⟨⟨⟨%K, Hg⟩, Hc, Hl⟩, Hw⟩, Ho, ⟨%d0, Hx⟩, ⟨%d1, Hw1⟩, ⟨%d2, Hw2⟩, ⟨%d3, Hy⟩⟩
  unfold Dat.owesAt Pipeline.owesWithin
  icases Ho with ⟨%W, %hW, HO⟩
  rw [show (dats m ρ 0 c).owed t0_0.castSucc = O₀ c from rfl, before_x, before_w1, before_w2]
  ihave Hx := (owns_slab c cc0_stg0_0 _).1 $$ Hx
  ihave Hw1 := (owns_slab c cc0_stg1_0 _).1 $$ Hw1
  ihave Hw2 := (owns_slab c cc0_stg2_0 _).1 $$ Hw2
  ihave Hy := ((owns_slab c cc0_stg3_0 _).1.trans (junk_intro _ _ _)) $$ Hy
  iapply (sound (insOf m) K c W) $$ [Hg Hc Hl Hw HO Hx Hw1 Hw2 Hy]
  · isplitl [Hg]; · iexact Hg
    isplitl [Hc]; · iexact Hc
    isplitl [Hl]; · iexact Hl
    isplitl [Hw]; · iexact Hw
    isplitl [HO]; · iexact HO
    isplitl [Hx]; · iexact Hx
    isplitl [Hw1]; · iexact Hw1
    isplitl [Hw2] <;> iassumption
  iintro ⟨Hd, ⟨%W', HO⟩, Hx, Hw1, Hw2, Hy⟩
  unfold bodyPost Dat.owesAt Pipeline.owesWithin
  rw [show (dats m ρ 0 c).owed t0_0.succ = 0 from rfl]
  isplitl [Hd]; · iexact Hd
  isplitl [HO]
  · iexists W'
    isplitr; · ipureintro; exact fun _ _ => Or.inl trivial
    iexact HO
  isplitl [Hx]; · iapply (owns_slab c cc0_stg0_0 _).2; iexact Hx
  isplitl [Hw1]; · iapply (owns_slab c cc0_stg1_0 _).2; iexact Hw1
  isplitl [Hw2]; · iapply (owns_slab c cc0_stg2_0 _).2; iexact Hw2
  iapply (owns_slab c cc0_stg3_0 _).2; iexact Hy

set_option maxRecDepth 65536 in
theorem body_obligation (c : Dev nD) : BodyObligation (dats (F := F) m ρ 0 c) (defs₀ (F := F)) 𝒱₀ () Set.univ := fun t => by
  rw [fin_N t]
  rw [bigSep_W, bigSep_W]
  show bodyPre m ρ c ⊢ run c (cc0_body xMem (Memref.isWhole_whole _) w1Mem (Memref.isWhole_whole _) w2Mem (Memref.isWhole_whole _)
      yMem (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      cc0_scratch8 cc0_scratch9 cc0_scratch10 cc0_scratch11 cc0_scratch12 cc0_scratch13 cc0_scratch14 cc0_scratch15
      cc0_scratch16 cc0_scratch17 cc0_scratch18 cc0_scratch19) (fun _ => bodyPost m ρ c)
  rw [body_eq]
  exact body_run m ρ c

end Body

/-! ## The semaphores -/

/-- The kernel's own semaphores. -/
abbrev osem (i : Bool × Cp) : SemLoc sig := .dma (dsem i)

theorem osem_scoped : ∀ i ∈ allD, (osem i).isScoped .tc = true := by decide +kernel
theorem stage_cid : ∀ (w : Fin cfg0.W) (s : Fin (cfg0.spec w).nbuf), cid (.dma ((cfg0.spec w).sem s)) = none := by decide +kernel

theorem ownSemFacts : Pipeline.OwnSemFacts cfg0.spec osem :=
  ⟨fun i => osem_scoped i (mem_allD i), fun i j h => Option.some.inj (csem_injective (a₁ := some i) (a₂ := some j) h), fun i w s h => by
    have h1 := cid_csem (some i)
    rw [show csem (some i) = _ from h, stage_cid w s] at h1
    cases h1⟩

theorem share_eq (c : Dev nD) (w : Fin cfg0.W) : (dats m ρ 0 c).share w = fullShare := by unfold Dat.share; split <;> rfl

/-- The cells of a device, listed. -/
def cis : List CI := none :: (sends.map fun k => some (true, k)) ++ (sends.map fun k => some (false, k))
theorem cis_nodup : cis.Nodup := by decide +kernel
theorem mem_cis (i : CI) : i ∈ cis := by
  rcases i with _ | ⟨_ | _, k⟩
  · exact List.mem_cons_self
  · exact List.mem_append_right _ (List.mem_map.mpr ⟨k, mem_sends k, rfl⟩)
  · exact List.mem_append_left _ (List.mem_cons_of_mem _ (List.mem_map.mpr ⟨k, mem_sends k, rfl⟩))

theorem cells_split (Φ : CI → sProp 𝕄) :
    bigSep Finset.univ Φ ⊣⊢ iprop(Φ none ∗ star (fun k => Φ (some (true, k))) sends ∗ star (fun k => Φ (some (false, k))) sends) := by
  rw [star_univ Φ cis (by ext i; exact ⟨fun _ => List.mem_toFinset.mpr (mem_cis i), fun _ => Finset.mem_univ _⟩) cis_nodup]
  unfold cis
  rw [List.cons_append, star_cons, ← star_map Φ (fun k => some (true, k)), ← star_map Φ (fun k => some (false, k))]
  exact ⟨sep_mono_right (star_append _ _ _).1, sep_mono_right (star_append _ _ _).2⟩

theorem pairs_split (Φ : Bool × Cp → sProp 𝕄) :
    bigSep Finset.univ Φ ⊣⊢ iprop(star (fun k => Φ (true, k)) sends ∗ star (fun k => Φ (false, k)) sends) := by
  rw [star_univ Φ allD (by ext i; exact ⟨fun _ => List.mem_toFinset.mpr (mem_allD i), fun _ => Finset.mem_univ _⟩) (by decide +kernel)]
  unfold allD
  rw [← star_map Φ (fun k => (true, k)), ← star_map Φ (fun k => (false, k))]
  exact star_append _ _ _

theorem own_split (c : Dev nD) : (Pipeline.ownSems0 (Ix := Unit) (Name := ℕ) (U := UU) (Lvl := ℕ) (Val := Elt F) (τ := τ) osem c : sProp 𝕄)
    ⊣⊢ iprop(star (fun k => semVal (rcell k c) 0) sends ∗ star (fun k => semVal (scell k c) 0) sends) :=
  pairs_split (F := F) (fun i => semVal ((c : Thread nD τ), osem i) 0)

theorem unscoped_eq (c : Dev nD) : (unscopedSems0 c : sProp 𝕄) = semVal (barCell c) 0 := by
  unfold unscopedSems0; rw [bigSep_eq_bigSepL_of_eq [SemLoc.reg barSem] (by decide) (by decide)]; rfl

theorem sems_split (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [unscoped_eq]
  refine BIBase.Entails.trans ?_ (cells_split _).2
  iintro ⟨H, HB⟩
  isplitl [HB]; · iexact HB
  iapply (own_split c).1; iexact H

/-! ## The cells' resources, dealt -/

def ringCells : Finset (GSem nD τ sig) := Finset.univ.map ⟨kcell, kcell_injective⟩

abbrev tokOf (x : Dev nD × CI × Bool) : GSem nD τ sig × ℕ × Bool := (kcell (x.1, x.2.1), 0, x.2.2)
theorem tokOf_injective : Function.Injective tokOf := by
  rintro ⟨c, i, d⟩ ⟨c', i', d'⟩ h
  have h1 := kcell_injective (congrArg Prod.fst h)
  have h2 : d = d' := congrArg (fun y => y.2.2) h
  cases h1; cases h2; rfl
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duties at a device's own cells. -/
def ownToks (c : Dev nD) : sProp 𝕄 := bigSep Finset.univ fun x : CI × Bool => dutyTok ER (kcell (c, x.1)) 0 x.2

/-- What the launch deals a device. -/
def G (c : Dev nD) : sProp 𝕄 :=
  iprop((bigSep Finset.univ fun i : CI => roundState ER (Rd (insOf m)) (kcell (c, i)) 0)
    ∗ (bigSep Finset.univ fun i : CI => iprop(atPos ER (kcell (c, i)) 0 ∅ 0 ∗ reached ER (kcell (c, i)) 0)) ∗ ownToks c)

/-- What the device starts with of it. -/
def G' (c : Dev nD) : sProp 𝕄 := iprop(∃ K, ghost (insOf m) K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]; rfl
  iintro HX
  imod (Rounds.fund ER (Rd (insOf m)) ringCells ringToks) $$ HX with ⟨Hst, Hr, Hat, Htok⟩
  imodintro
  ihave Hst' := (Entails.of_eq (hX fun g => roundState ER (Rd (insOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd (insOf m)) κ (kcell (c, i))))
          ∗ (bigSep Finset.univ fun i : CI => iprop(atPos ER (kcell (c, i)) 0 ∅ 0 ∗ reached ER (kcell (c, i)) 0)) ∗ ownToks c) := by
  unfold G
  iintro ⟨Hos, Hus, Hst, Hat, Htok⟩
  ihave Hv := (sems_split (F := F) c) $$ [Hos Hus]
  · isplitl [Hos] <;> iassumption
  imod (show iprop((bigSep Finset.univ fun i : CI => semVal (kcell (c, i)) 0) ∗ bigSep Finset.univ fun i : CI => roundState ER (Rd (insOf m)) (kcell (c, i)) 0)
      ⊢ (|={Set.univ}=> bigSep Finset.univ fun i => iprop(∃ κ : ℕ, cellInv ER (Rd (insOf m)) κ (kcell (c, i))) : sProp 𝕄) from by
        rw [← bigSep_sep']
        exact (bigSep_mono fun i _ => (Rounds.body_intro ER (Rd (insOf m)) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The neighbours, as permutations of the devices. -/
def ringE : Dev nD ≃ Dev nD := ⟨devL, devR, devR_devL, devL_devR⟩
def tgtE (k : Cp) : Dev nD ≃ Dev nD := ⟨tgt k, frm k, frm_tgt k, tgt_frm k⟩

theorem star_around (Φ : Cp → Dev nD → sProp 𝕄) (l : List Cp) :
    (bigSep Finset.univ fun c : Dev nD => star (fun k => Φ k c) l) = bigSep Finset.univ fun c : Dev nD => star (fun k => Φ k (tgt k c)) l := by
  induction l with
  | nil => rfl
  | cons k l ih =>
    simp only [star_cons]
    rw [bigSep_sep', bigSep_sep', ih, bigSep_univ_equiv (tgtE k) (fun c => Φ k c)]
    rfl

/-- The duties at a device's own cells, those it needs to hand out. -/
theorem ownToks_split (c : Dev nD) : (ownToks c : sProp 𝕄)
    ⊢ iprop(dutyTok ER (barCell c) 0 true ∗ dutyTok ER (barCell c) 0 false
      ∗ star (fun k => dutyTok ER (rcell k c) 0 false) sends ∗ star (fun k => dutyTok ER (scell k c) 0 false) sends) := by
  unfold ownToks
  rw [bigSep_univ_prod]
  refine (cells_split _).1.trans ?_
  have two : ∀ g : GSem nD τ sig, (bigSep Finset.univ fun d : Bool => (dutyTok ER g 0 d : sProp 𝕄))
      ⊢ iprop(dutyTok ER g 0 true ∗ dutyTok ER g 0 false) := fun g => by
    rw [bigSep_univ_eq_bigSepL [true, false] (by decide) (by decide), bigSepL_cons_cons, bigSepL_singleton]; exact .rfl
  have one : ∀ g : GSem nD τ sig, (bigSep Finset.univ fun d : Bool => (dutyTok ER g 0 d : sProp 𝕄)) ⊢ dutyTok ER g 0 false := fun g =>
    bigSep_elim (Finset.mem_univ false)
  refine (sep_mono_left (two (barCell c))).trans ?_
  refine (sep_mono_right (sep_mono_left (star_mono fun k _ => one (rcell k c)))).trans ?_
  refine (sep_mono_right (sep_mono_right (star_mono fun k _ => one (scell k c)))).trans ?_
  iintro ⟨⟨H1, H2⟩, H3⟩
  isplitl [H1]; · iexact H1
  isplitl [H2] <;> iassumption

theorem toks_around : (bigSep Finset.univ fun c : Dev nD => (ownToks c : sProp 𝕄)) ⊢ bigSep Finset.univ fun c : Dev nD => pays c := by
  refine (bigSep_mono fun c _ => ownToks_split c).trans ?_
  unfold pays
  rw [bigSep_sep', bigSep_sep', bigSep_sep', bigSep_sep', bigSep_sep', bigSep_sep',
    bigSep_univ_equiv ringE (fun c : Dev nD => (dutyTok ER (barCell c) 0 true : sProp 𝕄)),
    bigSep_univ_equiv ringE.symm (fun c : Dev nD => (dutyTok ER (barCell c) 0 false : sProp 𝕄)),
    star_around (fun k c => (dutyTok ER (rcell k c) 0 false : sProp 𝕄))]
  exact Entails.of_eq (PROP := sProp 𝕄) rfl

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) :
    iprop((invs (insOf m) K ∗ marks) ∗ (bigSep Finset.univ fun i : CI => atPos ER (kcell (c, i)) 0 ∅ 0) ∗ pays c) ⊢ G' m c := by
  unfold G' ghost places
  iintro ⟨H, Ha, Hp⟩
  iexists K
  isplitl [H]; · iexact H
  isplitl [Ha]
  · iapply (cells_split (F := F) (fun i => atPos ER (kcell (c, i)) 0 ∅ 0)).1; iexact Ha
  iexact Hp

theorem regroup :
    (bigSep Finset.univ fun c : Dev nD => iprop((bigSep Finset.univ fun i : CI => iprop(∃ κ : ℕ, cellInv ER (Rd (insOf m)) κ (kcell (c, i))))
          ∗ (bigSep Finset.univ fun i : CI => iprop(atPos ER (kcell (c, i)) 0 ∅ 0 ∗ reached ER (kcell (c, i)) 0)) ∗ ownToks c) : sProp 𝕄)
      ⊢ bigSep Finset.univ (G' m) := by
  rw [bigSep_sep', bigSep_sep', ← bigSep_univ_prod (fun ci : Dev nD × CI => iprop(∃ κ : ℕ, cellInv ER (Rd (insOf m)) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok⟩
  ihave HK := (BI.bigSep_exists_pi Finset.univ (fun (ci : Dev nD × CI) (κ : ℕ) => (cellInv ER (Rd (insOf m)) κ (kcell ci) : sProp 𝕄))) $$ HI
  icases HK with ⟨%K, #HI⟩
  ihave Htk := (toks_around (F := F)) $$ Htok
  iapply (with_persistent (R := iprop(invs (insOf m) K ∗ marks)) fun c _ => ghost_intro m K c)
  isplitr
  · unfold invs marks; isplitl; · iexact HI
    iexact HR
  · rw [bigSep_sep']
    isplitl [Hat]; · iexact Hat
    iexact Htk

/-- The own and the barrier semaphores of all devices, made the ring's cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem cell_ci {a b : Dev nD × CI} (h : kcell a = kcell b) : a = b := kcell_injective h

theorem owedL_bar (d c : Dev nD) (l : List Cp) : owedL d l (barCell c) () = 0 := by
  induction l with
  | nil => rfl
  | cons k l ih =>
    unfold owedL
    rw [Pi.add_apply, Finsupp.add_apply, ih, tallyAt_apply, if_neg fun h => by
      have := cell_ci (a := (c, none)) (b := (tgt k d, some (true, k))) h.1; cases this]

theorem owedL_recv (d c : Dev nD) (k : Cp) (l : List Cp) :
    owedL d l (rcell k c) () = if d = frm k c then l.count k * NK k else 0 := by
  induction l with
  | nil => show 0 = _; rw [List.count_nil, Nat.zero_mul, ite_self]
  | cons k' l ih =>
    unfold owedL
    rw [Pi.add_apply, Finsupp.add_apply, ih, tallyAt_apply, List.count_cons]
    by_cases hk : k' = k
    · subst hk
      rw [beq_self_eq_true, if_pos rfl]
      by_cases hd : d = frm k' c
      · rw [if_pos hd, if_pos hd, if_pos ⟨by rw [hd, tgt_frm], rfl⟩, Nat.add_mul, Nat.one_mul]
      · rw [if_neg hd, if_neg hd, if_neg fun h => hd (by
          have := cell_ci (a := (c, some (true, k'))) (b := (tgt k' d, some (true, k'))) h.1
          rw [show c = tgt k' d from congrArg Prod.fst this]; exact (frm_tgt k' d).symm)]
    · rw [if_neg (fun h : _ ∧ _ => hk (by
          have := cell_ci (a := (c, some (true, k))) (b := (tgt k' d, some (true, k'))) h.1
          cases this; rfl)), if_neg (fun h => hk (eq_of_beq h)), Nat.add_zero, Nat.add_zero]

theorem owed_bar (d c : Dev nD) : O₀ d (barCell c) () = (if d = devL c then 1 else 0) + (if d = devR c then 1 else 0) := by
  unfold O₀ O₁
  rw [Pi.add_apply, Finsupp.add_apply, Pi.add_apply, Finsupp.add_apply, owedL_bar, tallyAt_apply, tallyAt_apply, Nat.zero_add]
  congr 1
  · by_cases h : d = devL c
    · rw [if_pos h, if_pos ⟨by rw [h, devR_devL], rfl⟩]
    · rw [if_neg h, if_neg fun h' => h (by
        have := congrArg Prod.fst (cell_ci (a := (c, none)) (b := (devR d, none)) h'.1)
        rw [show c = devR d from this, devL_devR])]
  · by_cases h : d = devR c
    · rw [if_pos h, if_pos ⟨by rw [h, devL_devR], rfl⟩]
    · rw [if_neg h, if_neg fun h' => h (by
        have := congrArg Prod.fst (cell_ci (a := (c, none)) (b := (devL d, none)) h'.1)
        rw [show c = devL d from this, devR_devL])]

theorem owed_recv (d c : Dev nD) (k : Cp) : O₀ d (rcell k c) () = if d = frm k c then NK k else 0 := by
  have hb : ∀ d' : Dev nD, (tallyAt (barCell d') () 1 : CellTallies nD τ sig Unit) (rcell k c) () = 0 := fun d' => by
    rw [tallyAt_apply, if_neg fun h => by
      have := cell_ci (a := (c, some (true, k))) (b := (d', none)) h.1; cases this]
  unfold O₀ O₁
  rw [Pi.add_apply, Finsupp.add_apply, Pi.add_apply, Finsupp.add_apply, owedL_recv, hb, hb, Nat.add_zero,
    List.count_eq_one_of_mem sends_nodup (mem_sends k), Nat.one_mul]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (devL c) fun _ => 1, Finset.sum_ite_eq' Finset.univ (devR c) fun _ => 1, if_pos (Finset.mem_univ _), if_pos (Finset.mem_univ _)]

theorem launch_recv (c : Dev nD) (k : Cp) :
    tallyOn (rcell k c) (launchCredit (Pipeline.owing O₀) 0 (rcell k c)) = (tallyAt (rcell k c) () (NK k) : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (frm k c) fun _ => NK k, if_pos (Finset.mem_univ _)]

theorem creds_intro (c : Dev nD) : (Pipeline.launchCred O₀ c : sProp 𝕄) ⊢ creds c := by
  unfold Pipeline.launchCred creds
  refine (bigSep_subset (Finset.subset_univ (Finset.univ.map ⟨csem, csem_injective⟩))).trans ?_
  rw [bigSep_map]
  refine (cells_split _).1.trans ?_
  iintro ⟨H1, H2, -⟩
  isplitl [H1]
  · iapply (Entails.of_eq (congrArg cred (launch_bar c))); iexact H1
  · iapply (star_mono fun k _ => Entails.of_eq (congrArg cred (launch_recv c k))); iexact H2

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (insOf m) c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi_in (c : Dev nD) :
    iprop(start (insOf m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scoped_eq c).1; iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl, unscoped_eq]
  unfold done
  iintro ⟨HB, Hz, Hw⟩
  isplitl [HB]; · iexact HB
  isplitl [Hz]; · iapply (own_split c).2; iexact Hz
  iapply (scoped_eq c).2; iexact Hw

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_cid w s) _ (by
      rcases t with ⟨_ | _, ht⟩
      · exact Or.inl rfl
      · exact Or.inr rfl)

/-- The arrays after the run. -/
def arrN (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = arrN m ρ c w

set_option maxRecDepth 65536 in
/-- On the eight devices, over any float values: the program ends in every fair execution, with each device's arrays at
    the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start (insOf m)) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring
-- ==== Proof.Algebra.lean ====
/-
  The values over the extended reals: every device's summed rows are the whole product's rows, and the
  output is the second product's column block.
-/
module

public import proofs.«01_k».proof.Proof.Values
public import proofs.«01_k».proof.Proof.Gen.KernelIdeal.Skeleton
public import Idealize.ShloMosaic.Lib.MatmulPlain
public import Idealize.ShloMosaic.Lib.Pipeline.Value

@[expose] public section

noncomputable section

namespace Cert.KernelIdeal.Ring

open Cert.KernelIdeal Cert.KernelIdeal.Gen
open Idealize.ShloMosaic Idealize.ShloMosaic.ValueIdx Idealize.ShloMosaic.TcCoe
open scoped BigOperators

/-! ## Places on the ring -/

/-- The device `o` places to the right. -/
def nx (c : Dev nD) (o : Fin 8) : Dev nD := ⟨(c.val + o.val) % 8, Nat.mod_lt _ (by decide)⟩

theorem nx_bij (c : Dev nD) : Function.Bijective (nx c) := by
  rw [Fintype.bijective_iff_injective_and_card]
  refine ⟨fun a b h => Fin.ext ?_, by decide⟩
  have h := congrArg Fin.val h
  simp only [nx] at h
  have := a.isLt; have := b.isLt
  omega

theorem devR_nx (c : Dev nD) : devR c = nx c 1 := Fin.ext (k0_dev3_eq c)
theorem devL_nx (c : Dev nD) : devL c = nx c 7 := Fin.ext (k0_dev5_eq c)
theorem nx_nx (c : Dev nD) (a b : Fin 8) : nx (nx c a) b = nx c (a + b) := by
  refine Fin.ext ?_
  show ((c.val + a.val) % 8 + b.val) % 8 = (c.val + (a.val + b.val) % 8) % 8
  omega
theorem nx_zero (c : Dev nD) : nx c 0 = c := by
  refine Fin.ext ?_
  have := c.isLt; change c.val < 8 at this
  show (c.val + 0) % 8 = c.val
  omega

theorem sum_ring {M : Type*} [AddCommMonoid M] (c : Dev nD) (f : Dev nD → M) :
    ∑ d, f d = f (nx c 0) + f (nx c 1) + f (nx c 2) + f (nx c 3) + f (nx c 4) + f (nx c 5) + f (nx c 6) + f (nx c 7) := by
  rw [← Fintype.sum_bijective (nx c) (nx_bij c) (fun o => f (nx c o)) f fun _ => rfl, Fin.sum_univ_eight]

theorem off1_val (c : Dev nD) (o : Fin 8) :
    k0_off1 c (BitVec.ofNat 32 o.val) 0 = 512 * (nx c o).val ∧ k0_off1 c (BitVec.ofNat 32 o.val) 1 = 0 := by
  revert c o; decide

/-! ## The products -/

variable (I : Ins Ideal)

/-- Row `r` of chunk `q`, in the whole array. -/
abbrev rowAt (q : Dev nD) (r : Fin 512) : Fin 4096 := ⟨512 * q.val + r.val, by have := q.isLt; change q.val < 8 at this; omega⟩

/-- Device `d`'s share of the first product. -/
def loc (d q : Dev nD) (r j : Fin 512) : EReal := ∑ k : Fin 512, I.x d (ix2 (rowAt q r) k) * I.w1 d (ix2 k j)

theorem chunk_at (c : Dev nD) (o : Fin 8) (r k : Fin 512) : chunk I c o (ix2 r k) = I.x c (ix2 (rowAt (nx c o) r) k) := by
  unfold chunk
  congr 1
  funext a
  apply Fin.ext
  rw [Rect.emb_apply]
  match a with
  | ⟨0, _⟩ => show k0_off1 c (BitVec.ofNat 32 o.val) 0 + 1 * r.val = 512 * (nx c o).val + r.val; rw [(off1_val c o).1]; omega
  | ⟨1, _⟩ => show k0_off1 c (BitVec.ofNat 32 o.val) 1 + 1 * k.val = k.val; rw [(off1_val c o).2]; omega

theorem dotA : dot_S512x512_S512x512_S512x512_1_0_0_1_n_n = DotDims.plain 512 512 512 := rfl
theorem dotB : dot_S512x512_S512x256_S512x256_1_0_0_1_n_n = DotDims.plain 512 512 256 := rfl
theorem dotC : dot_S512x256_S256x256_S512x256_1_0_0_1_n_n = DotDims.plain 512 256 256 := rfl

theorem unit_at {n : ℕ} (v : (⟨2, ![512, n]⟩ : Shape).Idx → EReal) (h : (⟨2, ![512, n]⟩ : Shape).ShapeCasts ⟨3, ![1, 512, n]⟩)
    (r : Fin 512) (j : Fin n) : shapeCast ⟨3, ![1, 512, n]⟩ v h (ix3 (0 : Fin 1) r j) = v (ix2 r j) := by
  refine (shapeCast_addUnit_apply ![512, n] v h (ix3 (0 : Fin 1) r j)).trans (congrArg v ?_)
  funext a
  match a with
  | ⟨0, _⟩ => rfl
  | ⟨1, _⟩ => rfl

theorem PV_at (c : Dev nD) (o : Fin 8) (r j : Fin 512) : PV I c (ix3 o r j) = loc I c (nx c o) r j := by
  show k0_pay11 (k0_pay1 (I.w1 c)) (chunk I c o) (ix3 (0 : Fin 1) r j) = _
  unfold k0_pay11 k0_pay1
  simp only [shapeCast_self, dotA]
  refine (unit_at _ _ r j).trans ?_
  show FloatOps.matmul (F := Ideal) (φ₁ := .bf16) (φ₂ := .bf16) (DotDims.plain 512 512 512) none _ _ _ (ix2 r j) = _
  rw [Ideal.matmul_plain_apply]
  show Ideal.ofBits .f32 0x00000000#32 + _ = _
  rw [Ideal.ofBits_zero_f32, zero_add]
  unfold loc
  refine Finset.sum_congr rfl fun k _ => ?_
  rw [chunk_at]

theorem w1half_at (c : Dev nD) (h : Fin 2) (k : Fin 512) (j : Fin 256) : w1half (I.w1 c) h (ix2 k j) = I.w1 c (ix2 k (colAt h j)) := by
  match h with
  | 0 =>
    show k0_pay2 (I.w1 c) (ix2 k j) = _
    unfold k0_pay2 k0_pay1
    simp only [shapeCast_self]
    refine extractStridedSlice_apply _ _ _ _ _ fun a => ?_
    match a with
    | ⟨0, _⟩ => show k.val = 0 + k.val; omega
    | ⟨1, _⟩ => show 256 * 0 + j.val = 0 + j.val; omega
  | 1 =>
    show k0_pay3 (I.w1 c) (ix2 k j) = _
    unfold k0_pay3 k0_pay1
    simp only [shapeCast_self]
    refine extractStridedSlice_apply _ _ _ _ _ fun a => ?_
    match a with
    | ⟨0, _⟩ => show k.val = 0 + k.val; omega
    | ⟨1, _⟩ => show 256 * 1 + j.val = 256 + j.val; omega

theorem seedV_at (f : Fam) (c : Dev nD) (r : Fin 512) (j : Fin 256) : seedV I f c r j = loc I c (nx c f.start) r (colAt f.half j) := by
  unfold seedV seedPay k0_pay8
  simp only [shapeCast_self, dotB]
  refine (unit_at _ _ r j).trans ?_
  show FloatOps.matmul (F := Ideal) (φ₁ := .bf16) (φ₂ := .bf16) (DotDims.plain 512 512 256) none _ _ _ (ix2 r j) = _
  rw [Ideal.matmul_plain_apply]
  show Ideal.ofBits .f32 0x00000000#32 + _ = _
  rw [Ideal.ofBits_zero_f32, zero_add]
  unfold loc
  refine Finset.sum_congr rfl fun k _ => ?_
  rw [chunk_at, w1half_at]

theorem chain_zero (f : Fam) (c : Dev nD) (r : Fin 512) (j : Fin 256) : chain I f 0 c r j = loc I c (nx c f.start) r (colAt f.half j) :=
  seedV_at I f c r j

theorem chain_succ (f : Fam) (s : ℕ) (c : Dev nD) (r : Fin 512) (j : Fin 256) :
    chain I f (s + 1) c r j = chain I f s (frmB f.right c) r j + loc I c (nx c (f.off (Fin.ofNat 3 s))) r (colAt f.half j) := by
  rw [chain, PV_at]; rfl

/-- A device's own summed rows are the sum of every device's share. -/
theorem OV_at (c : Dev nD) (r j : Fin 512) : OV I c (ix2 r j) = ∑ d, loc I d c r j := by
  rw [sum_ring c]
  unfold OV
  have hj := j.isLt
  split
  · rename_i h
    change j.val < 256 at h
    have e : colAt 0 ⟨j.val, h⟩ = j := Fin.ext (by show 256 * 0 + j.val = j.val; omega)
    simp only [chain_succ, chain_zero, PV_at, devL_nx, devR_nx, frmB, Fam.right, Bool.cond_true, Bool.cond_false, nx_nx]
    change (loc I (nx c 4) (nx c 0) r (colAt 0 ⟨j.val, h⟩) + loc I (nx c 5) (nx c 0) r (colAt 0 ⟨j.val, h⟩)
        + loc I (nx c 6) (nx c 0) r (colAt 0 ⟨j.val, h⟩) + loc I (nx c 7) (nx c 0) r (colAt 0 ⟨j.val, h⟩))
      + (loc I (nx c 3) (nx c 0) r (colAt 0 ⟨j.val, h⟩) + loc I (nx c 2) (nx c 0) r (colAt 0 ⟨j.val, h⟩)
        + loc I (nx c 1) (nx c 0) r (colAt 0 ⟨j.val, h⟩)) + loc I c (nx c 0) r j = _
    rw [e, nx_zero]
    abel
  · rename_i h
    change ¬ j.val < 256 at h
    have h' : j.val - 256 < 256 := by omega
    have e : colAt 1 ⟨j.val - 256, h'⟩ = j := Fin.ext (by show 256 * 1 + (j.val - 256) = j.val; omega)
    simp only [chain_succ, chain_zero, PV_at, devL_nx, devR_nx, frmB, Fam.right, Bool.cond_true, Bool.cond_false, nx_nx]
    change (loc I (nx c 4) (nx c 0) r (colAt 1 ⟨j.val - 256, h'⟩) + loc I (nx c 3) (nx c 0) r (colAt 1 ⟨j.val - 256, h'⟩)
        + loc I (nx c 2) (nx c 0) r (colAt 1 ⟨j.val - 256, h'⟩) + loc I (nx c 1) (nx c 0) r (colAt 1 ⟨j.val - 256, h'⟩))
      + (loc I (nx c 5) (nx c 0) r (colAt 1 ⟨j.val - 256, h'⟩) + loc I (nx c 6) (nx c 0) r (colAt 1 ⟨j.val - 256, h'⟩)
        + loc I (nx c 7) (nx c 0) r (colAt 1 ⟨j.val - 256, h'⟩)) + loc I c (nx c 0) r j = _
    rw [e, nx_zero]
    abel

theorem OVh_at (q : Dev nD) (h : Fin 2) (r : Fin 512) (k : Fin 256) : OVh I q h (ix2 r k) = OV I q (ix2 r (colAt h k)) := rfl

theorem w2u_at (c : Dev nD) (k j : Fin 256) : w2u I c (ix2 k j) = I.w2 c (ix2 (colAt 0 k) j) := by
  unfold w2u
  congr 1
  funext a
  apply Fin.ext
  rw [Rect.emb_apply]
  match a with
  | ⟨0, _⟩ => show 0 + 1 * k.val = 256 * 0 + k.val; omega
  | ⟨1, _⟩ => show 0 + 1 * j.val = j.val; omega

theorem w2v_at (c : Dev nD) (k j : Fin 256) : w2v I c (ix2 k j) = I.w2 c (ix2 (colAt 1 k) j) := by
  unfold w2v
  congr 1
  funext a
  apply Fin.ext
  rw [Rect.emb_apply]
  match a with
  | ⟨0, _⟩ => show 256 + 1 * k.val = 256 * 1 + k.val; omega
  | ⟨1, _⟩ => show 0 + 1 * j.val = j.val; omega

theorem sum_halves (f : Fin 512 → EReal) : (∑ k, f (colAt 0 k)) + ∑ k, f (colAt 1 k) = ∑ k, f k := by
  rw [Fin.sum_univ_add (a := 256) (b := 256) (f := f)]
  congr 1

theorem outV_at (c q : Dev nD) (r : Fin 512) (j : Fin 256) :
    outV I c q (ix2 r j) = ∑ k : Fin 512, (∑ d, loc I d q r k) * I.w2 c (ix2 k j) := by
  unfold outV k0_pay51 k0_pay4 k0_pay5
  simp only [shapeCast_self, dotC]
  show FloatOps.matmul (F := Ideal) (φ₁ := .bf16) (φ₂ := .bf16) (DotDims.plain 512 256 256) none _ _ _ (ix2 r j)
    + FloatOps.matmul (F := Ideal) (φ₁ := .bf16) (φ₂ := .bf16) (DotDims.plain 512 256 256) none _ _ _ (ix2 r j) = _
  rw [Ideal.matmul_plain_apply, Ideal.matmul_plain_apply]
  show (Ideal.ofBits .f32 0x00000000#32 + _) + (Ideal.ofBits .f32 0x00000000#32 + _) = _
  rw [Ideal.ofBits_zero_f32, zero_add, zero_add, ← sum_halves]
  simp only [OVh_at, OV_at, w2u_at, w2v_at]

/-! ## The whole arrays -/

/-- Place `k` of device `d`'s part of a row of the whole array. -/
abbrev rowOf (d : Fin 8) (k : Fin 512) : Fin 4096 := ⟨512 * d.val + k.val, by omega⟩

theorem sum_blocks (f : Fin 4096 → EReal) : ∑ d : Fin 8, ∑ k : Fin 512, f (rowOf d k) = ∑ k, f k := by
  rw [← Fintype.sum_prod_type' (f := fun d k => f (rowOf d k))]
  refine Fintype.sum_bijective (fun p : Fin 8 × Fin 512 => rowOf p.1 p.2) ⟨fun a b h => ?_, fun k => ?_⟩ _ _ fun _ => rfl
  · have h := congrArg Fin.val h
    change 512 * a.1.val + a.2.val = 512 * b.1.val + b.2.val at h
    have := a.2.isLt; have := b.2.isLt
    exact Prod.ext (Fin.ext (by omega)) (Fin.ext (by omega))
  · refine ⟨(⟨k.val / 512, by omega⟩, ⟨k.val % 512, by omega⟩), Fin.ext ?_⟩
    show 512 * (k.val / 512) + k.val % 512 = k.val
    omega

variable (X : Fin 4096 → Fin 4096 → EReal) (U : Fin 4096 → Fin 512 → EReal) (V : Fin 512 → Fin 2048 → EReal)

/-- Each device's arguments are its parts of the whole arrays. -/
structure Parts : Prop where
  x : ∀ (d : Dev nD) (R : Fin 4096) (k : Fin 512), I.x d (ix2 R k) = X R (rowOf d k)
  w1 : ∀ (d : Dev nD) (k j : Fin 512), I.w1 d (ix2 k j) = U (rowOf d k) j
  w2 : ∀ (d : Dev nD) (k : Fin 512) (j : Fin 256), I.w2 d (ix2 k j) = V k ⟨256 * d.val + j.val, by have := d.isLt; change d.val < 8 at this; omega⟩

variable {I X U V}

theorem share_sum (h : Parts I X U V) (q : Dev nD) (r j : Fin 512) :
    ∑ d, loc I d q r j = ∑ k : Fin 4096, X (rowAt q r) k * U k j := by
  rw [← sum_blocks]
  refine Finset.sum_congr rfl fun d _ => Finset.sum_congr rfl fun k _ => ?_
  rw [h.x, h.w1]

/-- The output is the device's column block of the two products. -/
theorem OUT_at (h : Parts I X U V) (c : Dev nD) (R : Fin 4096) (j : Fin 256) :
    OUT I c (ix2 R j) = ∑ l : Fin 512, (∑ k : Fin 4096, X R k * U k l)
      * V l ⟨256 * c.val + j.val, by have := c.isLt; change c.val < 8 at this; omega⟩ := by
  have hR := R.isLt
  show outV I c ⟨R.val / 512, _⟩ (ix2 (⟨R.val % 512, _⟩ : Fin 512) j) = _
  rw [outV_at]
  refine Finset.sum_congr rfl fun l _ => ?_
  rw [share_sum h, h.w2]
  have e : rowAt ⟨R.val / 512, by show _ < 8; omega⟩ ⟨R.val % 512, Nat.mod_lt _ (by decide)⟩ = R :=
    Fin.ext (by show 512 * (R.val / 512) + R.val % 512 = R.val; omega)
  rw [e]

end Cert.KernelIdeal.Ring

end
-- ==== Proof.Claims.lean ====
/-
  The claims out of the runs: the arguments unchanged, and the output's value over the extended reals.
-/
module

public import proofs.«01_k».proof.Defs
public import proofs.«01_k».proof.Proof.Deal
public import proofs.«01_k».proof.Proof.Algebra
public import proofs.«01_k».proof.Proof.Gen.Kernel
public import proofs.«01_k».proof.Proof.Gen.ReferenceIdeal.Run
public import Idealize.ShloMosaic.Lib.StackMember

@[expose] public section

noncomputable section

namespace Cert.KernelIdeal.Ring

open Cert.KernelIdeal Cert.KernelIdeal.Gen
open Idealize.ShloMosaic Idealize.ShloMosaic.ValueIdx Idealize.ShloMosaic.TcCoe Idealize.SL.Sem
open scoped BigOperators

variable {F : FTy → Type} [FloatOps F]
variable (m : (ℓ : Loc nD τ sig) → Buf (Elt F) ℓ) (ρ : Dev nD → PrngReg)

theorem kept (c : Dev nD) {r : PUnit × MemSt nD τ sig (Elt F)} (h : QC m ρ r) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨(h c (0 : Fin 4)).trans ((dats m ρ 0 c).arrAt_in (0 : Fin 4) rfl _),
    (h c (1 : Fin 4)).trans ((dats m ρ 0 c).arrAt_in (1 : Fin 4) rfl _),
    (h c (2 : Fin 4)).trans ((dats m ρ 0 c).arrAt_in (2 : Fin 4) rfl _)⟩

/-- The program ends with its arguments unchanged and every semaphore at zero. -/
theorem ends : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0) :=
  (θ_run defs _ _).mono (fun _ h => ⟨fun c => kept m ρ c h.1, h.2⟩) (run_main m ρ)

/-! ## A window's block is its whole array -/

theorem emb0 (i : S4096x512.Idx) : (win0_0.rect t0_0).emb i = i := by
  funext a; apply Fin.ext
  rw [Pipeline.Window.rect_emb_val_of_index_zero _ _ a (by revert a; decide)]

theorem read0 (c : Dev nD) (i : S4096x512.Idx) : (insOf m).x c i = m ((c : Thread nD τ).loc main_arg0) i :=
  congrArg (m ((c : Thread nD τ).loc main_arg0)) (emb0 i)

theorem emb1 (i : S512x512.Idx) : (win0_1.rect t0_0).emb i = i := by
  funext a; apply Fin.ext
  rw [Pipeline.Window.rect_emb_val_of_index_zero _ _ a (by revert a; decide)]

theorem read1 (c : Dev nD) (i : S512x512.Idx) : (insOf m).w1 c i = m ((c : Thread nD τ).loc main_arg1) i :=
  congrArg (m ((c : Thread nD τ).loc main_arg1)) (emb1 i)

theorem emb2 (i : S512x256.Idx) : (win0_2.rect t0_0).emb i = i := by
  funext a; apply Fin.ext
  rw [Pipeline.Window.rect_emb_val_of_index_zero _ _ a (by revert a; decide)]

theorem read2 (c : Dev nD) (i : S512x256.Idx) : (insOf m).w2 c i = m ((c : Thread nD τ).loc main_arg2) i :=
  congrArg (m ((c : Thread nD τ).loc main_arg2)) (emb2 i)

theorem emb3 (i : S4096x256.Idx) : (win0_3.rect t0_0).emb i = i := by
  funext a; apply Fin.ext
  rw [Pipeline.Window.rect_emb_val_of_index_zero _ _ a (by revert a; decide)]

theorem arr3 (c : Dev nD) : arrN m ρ c (3 : Fin 4) = OUT (insOf m) c :=
  (dats m ρ 0 c).arrAt_eq_of_cover (3 : Fin 4) (OUT (insOf m) c)
    (fun t _ => by
      rw [fin_N t]
      exact funext fun i => (congrArg (OUT (insOf m) c) (emb3 i)).symm)
    (fun i => ⟨t0_0, flush0_3 _, by
      show i ∈ ((View.whole main_v1).slice (win0_3.rect t0_0)).set
      rw [View.set_slice_whole, ← emb3 i]
      exact (win0_3.rect t0_0).toLoadRect.idx_mem i⟩)

end Cert.KernelIdeal.Ring

namespace Cert.Proof

open Idealize.ShloMosaic Idealize.ShloMosaic.ValueIdx Idealize.ShloMosaic.TcCoe Idealize.SL.Sem
open Cert.KernelIdeal.Ring (run_main kept ends arr3 insOf OUT OUT_at Parts read0 read1 read2)
open scoped BigOperators

/-- The two programs' body tables have one text. -/
theorem bodies : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | 0, (t, s) => exact rfl
  | ⟨_ + 1, h⟩, _ => exact absurd h (Nat.not_lt.2 (Nat.le_add_left _ _))

theorem tables : Cert.Kernel.defs (F := Bits) = Cert.KernelIdeal.defs (F := Bits) :=
  congrArg (Idealize.ShloMosaic.Pipeline.defs Cert.KernelIdeal.pcfgs) bodies

theorem frame_kernel : Cert.quiescent_Kernel := fun m ρ _ => by
  rw [tables]
  exact ends (F := Bits) m ρ

theorem frame_ideal : Cert.quiescent_KernelIdeal := fun m ρ _ => ends (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

theorem refA : Cert.ReferenceIdeal.dot_S4096x4096_S4096x512_S4096x512_1_0_0_1_n_n = DotDims.plain 4096 4096 512 := rfl
theorem refB : Cert.ReferenceIdeal.dot_S4096x512_S512x2048_S4096x2048_1_0_0_1_n_n = DotDims.plain 4096 512 2048 := rfl

/-- The reference's result. -/
def whole (X : FVec Ideal ⟨2, ![4096, 4096]⟩ .bf16) (U : FVec Ideal ⟨2, ![4096, 512]⟩ .bf16) (V : FVec Ideal ⟨2, ![512, 2048]⟩ .bf16) :
    FVec Ideal ⟨2, ![4096, 2048]⟩ .f32 :=
  extf .f32 (truncf .bf16 (Host.dotGeneral Cert.ReferenceIdeal.dot_S4096x512_S512x2048_S4096x2048_1_0_0_1_n_n none
    (truncf .bf16 (Host.dotGeneral Cert.ReferenceIdeal.dot_S4096x4096_S4096x512_S4096x512_1_0_0_1_n_n none X U)
      (by decide)) V) (by decide)) (by decide)

theorem whole_at (X : FVec Ideal ⟨2, ![4096, 4096]⟩ .bf16) (U : FVec Ideal ⟨2, ![4096, 512]⟩ .bf16) (V : FVec Ideal ⟨2, ![512, 2048]⟩ .bf16)
    (R : Fin 4096) (j : Fin 2048) :
    whole X U V (ix2 R j) = ∑ l : Fin 512, (∑ k : Fin 4096, X (ix2 R k) * U (ix2 k l)) * V (ix2 l j) := by
  unfold whole
  rw [refA, refB]
  show Host.dotGeneral (F := Ideal) (DotDims.plain 4096 512 2048) none
    (fun i => Host.dotGeneral (F := Ideal) (DotDims.plain 4096 4096 512) none X U i : FVec Ideal ⟨2, ![4096, 512]⟩ .bf16) V (ix2 R j) = _
  rw [StackMember.dotGeneral_plain_apply]
  refine Finset.sum_congr rfl fun l _ => ?_
  show Host.dotGeneral (F := Ideal) (DotDims.plain 4096 4096 512) none X U (ix2 R l) * _ = _
  rw [StackMember.dotGeneral_plain_apply]

theorem value : Cert.algebraic_KernelIdeal_ReferenceIdeal := by
  intro m ρ m' ρ' _ hm
  refine ⟨_, (θ_run Cert.KernelIdeal.defs _ _).mono (fun r h c => ⟨?_, kept (F := Ideal) m ρ c h.1⟩) (run_main (F := Ideal) m ρ),
    (θ_run Cert.ReferenceIdeal.defs _ _).mono (fun r h => ⟨(h 0).1, (h 0).2⟩) (Cert.ReferenceIdeal.Value.run (F := Ideal) m' ρ')⟩
  have hP : Parts (insOf m)
      (fun R k => m' ((0 : Dev Cert.ReferenceIdeal.nD).tc.loc Cert.ReferenceIdeal.main_arg0) (ix2 R k))
      (fun k j => m' ((0 : Dev Cert.ReferenceIdeal.nD).tc.loc Cert.ReferenceIdeal.main_arg1) (ix2 k j))
      (fun k j => m' ((0 : Dev Cert.ReferenceIdeal.nD).tc.loc Cert.ReferenceIdeal.main_arg2) (ix2 k j)) := by
    refine ⟨fun d R k => ?_, fun d k j => ?_, fun d k j => ?_⟩
    · rw [read0, (hm d).1, Layout.block_apply]
      congr 1; funext a; apply Fin.ext
      match a with
      | ⟨0, _⟩ => rfl
      | ⟨1, _⟩ => show d.val * 512 + k.val = 512 * d.val + k.val; omega
    · rw [read1, (hm d).2.1, Layout.block_apply]
      congr 1; funext a; apply Fin.ext
      match a with
      | ⟨0, _⟩ => show d.val * 512 + k.val = 512 * d.val + k.val; omega
      | ⟨1, _⟩ => rfl
    · rw [read2, (hm d).2.2, Layout.block_apply]
      congr 1; funext a; apply Fin.ext
      match a with
      | ⟨0, _⟩ => rfl
      | ⟨1, _⟩ => show d.val * 256 + j.val = 256 * d.val + j.val; omega
  refine ((h.1 c (3 : Fin 4)).trans (arr3 m ρ c)).trans (funext fun i => ?_)
  rw [Layout.block_apply]
  have e : ∀ i : (⟨2, ![4096, 256]⟩ : Shape).Idx, OUT (insOf m) c i = whole
      (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2))
      ((by decide : Layout.Tiles ⟨2, ![4096, 256]⟩ ⟨2, ![4096, 2048]⟩ 1 8).idx c i) := by
    intro i
    obtain ⟨R, j, rfl⟩ : ∃ (R : Fin 4096) (j : Fin 256), i = ix2 R j := ⟨i 0, i 1, eq_ix2 i⟩
    rw [OUT_at hP]
    refine (whole_at _ _ _ R ⟨256 * c.val + j.val, _⟩).symm.trans ?_
    congr 1; funext a; apply Fin.ext
    match a with
    | ⟨0, _⟩ => rfl
    | ⟨1, _⟩ => show 256 * c.val + j.val = c.val * 256 + j.val; omega
  exact e i

end Cert.Proof

end
-- ==== Proof.lean ====
/-
  The proof of `Cert.Claim`: the frames of the kernel, of its idealization and of the reference, and that over the
  extended reals each device's result is its column block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Deal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- The certificate's claims, proved in `Proof/Claims.lean`. -/
theorem claim : Cert.Claim := ⟨Cert.Kernel.Gen.facts, Cert.KernelIdeal.Gen.facts, Cert.ReferenceIdeal.Gen.facts,
  frame_kernel, frame_ideal, frame_reference, trivial, value⟩

end Cert.Proof

end
